-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_w2 [hPre_finite_w2 : Cert.Pre_finite_w2.Facts] (m : (ℓ : Loc Cert.KernelIdeal.nD Cert.KernelIdeal.τ Cert.KernelIdeal.sig) → Buf (Elt Ideal) ℓ) : Prop :=
  ∀ c : Dev Cert.KernelIdeal.nD,
    (Cert.Pre_finite_w2.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ShiftedIdeal (m : (ℓ : Loc Cert.ShiftedIdeal.nD Cert.ShiftedIdeal.τ Cert.ShiftedIdeal.sig) → Buf (Elt Ideal) ℓ) : Prop :=
  True

def Pre_ShiftedIdeal_finite_w2 [hPre_finite_w2 : Cert.Pre_finite_w2.Facts] (m : (ℓ : Loc Cert.ShiftedIdeal.nD Cert.ShiftedIdeal.τ Cert.ShiftedIdeal.sig) → Buf (Elt Ideal) ℓ) : Prop :=
  ∀ c : Dev Cert.ShiftedIdeal.nD,
    (Cert.Pre_finite_w2.fn (F := Ideal) (m ((c.tc : Thread Cert.ShiftedIdeal.nD Cert.ShiftedIdeal.τ).loc Cert.ShiftedIdeal.main_arg0)) (m ((c.tc : Thread Cert.ShiftedIdeal.nD Cert.ShiftedIdeal.τ).loc Cert.ShiftedIdeal.main_arg1)) (m ((c.tc : Thread Cert.ShiftedIdeal.nD Cert.ShiftedIdeal.τ).loc Cert.ShiftedIdeal.main_arg2)) (m ((c.tc : Thread Cert.ShiftedIdeal.nD Cert.ShiftedIdeal.τ).loc Cert.ShiftedIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_w2 [hKernelIdeal : Cert.KernelIdeal.Facts] [hPre_finite_w2 : Cert.Pre_finite_w2.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_w2 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ShiftedIdeal [hShiftedIdeal : Cert.ShiftedIdeal.Facts] : Prop :=
  ∀ (m : (ℓ : Loc Cert.ShiftedIdeal.nD Cert.ShiftedIdeal.τ Cert.ShiftedIdeal.sig) → Buf (Elt Ideal) ℓ) (g : Dev Cert.ShiftedIdeal.nD → PrngReg), Pre_ShiftedIdeal m →
    θ_run (Cert.ShiftedIdeal.defs (F := Ideal)) (onTc (τ := Cert.ShiftedIdeal.τ) (Cert.ShiftedIdeal.main (F := Ideal))) ⟨m, fun _ => 0, g⟩ (fun r => (∀ c : Dev Cert.ShiftedIdeal.nD,
      r.2.mem ((c.tc : Thread Cert.ShiftedIdeal.nD Cert.ShiftedIdeal.τ).loc Cert.ShiftedIdeal.main_arg0) = m ((c.tc : Thread Cert.ShiftedIdeal.nD Cert.ShiftedIdeal.τ).loc Cert.ShiftedIdeal.main_arg0)
      ∧ r.2.mem ((c.tc : Thread Cert.ShiftedIdeal.nD Cert.ShiftedIdeal.τ).loc Cert.ShiftedIdeal.main_arg1) = m ((c.tc : Thread Cert.ShiftedIdeal.nD Cert.ShiftedIdeal.τ).loc Cert.ShiftedIdeal.main_arg1)
      ∧ r.2.mem ((c.tc : Thread Cert.ShiftedIdeal.nD Cert.ShiftedIdeal.τ).loc Cert.ShiftedIdeal.main_arg2) = m ((c.tc : Thread Cert.ShiftedIdeal.nD Cert.ShiftedIdeal.τ).loc Cert.ShiftedIdeal.main_arg2)
      ∧ r.2.mem ((c.tc : Thread Cert.ShiftedIdeal.nD Cert.ShiftedIdeal.τ).loc Cert.ShiftedIdeal.main_arg3) = m ((c.tc : Thread Cert.ShiftedIdeal.nD Cert.ShiftedIdeal.τ).loc Cert.ShiftedIdeal.main_arg3))
      ∧ r.2.sem = fun _ => 0)

def quiescent_ShiftedIdeal_pre_finite_w2 [hShiftedIdeal : Cert.ShiftedIdeal.Facts] [hPre_finite_w2 : Cert.Pre_finite_w2.Facts] : Prop :=
  ∀ (m : (ℓ : Loc Cert.ShiftedIdeal.nD Cert.ShiftedIdeal.τ Cert.ShiftedIdeal.sig) → Buf (Elt Ideal) ℓ) (g : Dev Cert.ShiftedIdeal.nD → PrngReg), Pre_ShiftedIdeal_finite_w2 m →
    θ_run (Cert.ShiftedIdeal.defs (F := Ideal)) (onTc (τ := Cert.ShiftedIdeal.τ) (Cert.ShiftedIdeal.main (F := Ideal))) ⟨m, fun _ => 0, g⟩ (fun r => (∀ c : Dev Cert.ShiftedIdeal.nD,
      r.2.mem ((c.tc : Thread Cert.ShiftedIdeal.nD Cert.ShiftedIdeal.τ).loc Cert.ShiftedIdeal.main_arg0) = m ((c.tc : Thread Cert.ShiftedIdeal.nD Cert.ShiftedIdeal.τ).loc Cert.ShiftedIdeal.main_arg0)
      ∧ r.2.mem ((c.tc : Thread Cert.ShiftedIdeal.nD Cert.ShiftedIdeal.τ).loc Cert.ShiftedIdeal.main_arg1) = m ((c.tc : Thread Cert.ShiftedIdeal.nD Cert.ShiftedIdeal.τ).loc Cert.ShiftedIdeal.main_arg1)
      ∧ r.2.mem ((c.tc : Thread Cert.ShiftedIdeal.nD Cert.ShiftedIdeal.τ).loc Cert.ShiftedIdeal.main_arg2) = m ((c.tc : Thread Cert.ShiftedIdeal.nD Cert.ShiftedIdeal.τ).loc Cert.ShiftedIdeal.main_arg2)
      ∧ r.2.mem ((c.tc : Thread Cert.ShiftedIdeal.nD Cert.ShiftedIdeal.τ).loc Cert.ShiftedIdeal.main_arg3) = m ((c.tc : Thread Cert.ShiftedIdeal.nD Cert.ShiftedIdeal.τ).loc Cert.ShiftedIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ShiftedIdeal_pre_finite_w2 [hKernelIdeal : Cert.KernelIdeal.Facts] [hShiftedIdeal : Cert.ShiftedIdeal.Facts] [hPre_finite_w2 : Cert.Pre_finite_w2.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ShiftedIdeal.nD Cert.ShiftedIdeal.τ Cert.ShiftedIdeal.sig) → Buf (Elt Ideal) ℓ) (g' : Dev Cert.ShiftedIdeal.nD → PrngReg), Pre_KernelIdeal_finite_w2 m →
    (∀ c : Dev Cert.KernelIdeal.nD,
      m' ((c.tc : Thread Cert.ShiftedIdeal.nD Cert.ShiftedIdeal.τ).loc Cert.ShiftedIdeal.main_arg0) = m ((c.tc : Thread Cert.KernelIdeal.nD Cert.KernelIdeal.τ).loc Cert.KernelIdeal.main_arg0)
      ∧ m' ((c.tc : Thread Cert.ShiftedIdeal.nD Cert.ShiftedIdeal.τ).loc Cert.ShiftedIdeal.main_arg1) = m ((c.tc : Thread Cert.KernelIdeal.nD Cert.KernelIdeal.τ).loc Cert.KernelIdeal.main_arg1)
      ∧ m' ((c.tc : Thread Cert.ShiftedIdeal.nD Cert.ShiftedIdeal.τ).loc Cert.ShiftedIdeal.main_arg2) = m ((c.tc : Thread Cert.KernelIdeal.nD Cert.KernelIdeal.τ).loc Cert.KernelIdeal.main_arg2)
      ∧ m' ((c.tc : Thread Cert.ShiftedIdeal.nD Cert.ShiftedIdeal.τ).loc Cert.ShiftedIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ShiftedIdeal.defs (F := Ideal)) (onTc (τ := Cert.ShiftedIdeal.τ) (Cert.ShiftedIdeal.main (F := Ideal))) ⟨m', fun _ => 0, g'⟩ (fun r => ∀ c : Dev Cert.ShiftedIdeal.nD,
          r.2.mem ((c.tc : Thread Cert.ShiftedIdeal.nD Cert.ShiftedIdeal.τ).loc Cert.ShiftedIdeal.main_v50) = v0 c
          ∧ r.2.mem ((c.tc : Thread Cert.ShiftedIdeal.nD Cert.ShiftedIdeal.τ).loc Cert.ShiftedIdeal.main_arg0) = m' ((c.tc : Thread Cert.ShiftedIdeal.nD Cert.ShiftedIdeal.τ).loc Cert.ShiftedIdeal.main_arg0)
          ∧ r.2.mem ((c.tc : Thread Cert.ShiftedIdeal.nD Cert.ShiftedIdeal.τ).loc Cert.ShiftedIdeal.main_arg1) = m' ((c.tc : Thread Cert.ShiftedIdeal.nD Cert.ShiftedIdeal.τ).loc Cert.ShiftedIdeal.main_arg1)
          ∧ r.2.mem ((c.tc : Thread Cert.ShiftedIdeal.nD Cert.ShiftedIdeal.τ).loc Cert.ShiftedIdeal.main_arg2) = m' ((c.tc : Thread Cert.ShiftedIdeal.nD Cert.ShiftedIdeal.τ).loc Cert.ShiftedIdeal.main_arg2)
          ∧ r.2.mem ((c.tc : Thread Cert.ShiftedIdeal.nD Cert.ShiftedIdeal.τ).loc Cert.ShiftedIdeal.main_arg3) = m' ((c.tc : Thread Cert.ShiftedIdeal.nD Cert.ShiftedIdeal.τ).loc Cert.ShiftedIdeal.main_arg3))

def Claim : Prop :=
  ∃ (hKernel : Cert.Kernel.Facts) (hKernelIdeal : Cert.KernelIdeal.Facts) (hReferenceIdeal : Cert.ReferenceIdeal.Facts) (hShiftedIdeal : Cert.ShiftedIdeal.Facts) (hPre_finite_w2 : Cert.Pre_finite_w2.Facts),
    quiescent_Kernel (hKernel := hKernel)
    ∧ quiescent_KernelIdeal (hKernelIdeal := hKernelIdeal)
    ∧ quiescent_KernelIdeal_pre_finite_w2 (hKernelIdeal := hKernelIdeal) (hPre_finite_w2 := hPre_finite_w2)
    ∧ quiescent_ReferenceIdeal (hReferenceIdeal := hReferenceIdeal)
    ∧ quiescent_ShiftedIdeal (hShiftedIdeal := hShiftedIdeal)
    ∧ quiescent_ShiftedIdeal_pre_finite_w2 (hShiftedIdeal := hShiftedIdeal) (hPre_finite_w2 := hPre_finite_w2)
    ∧ preserves_Kernel_KernelIdeal
    ∧ algebraic_KernelIdeal_ReferenceIdeal (hKernelIdeal := hKernelIdeal) (hReferenceIdeal := hReferenceIdeal)
    ∧ algebraic_KernelIdeal_ShiftedIdeal_pre_finite_w2 (hKernelIdeal := hKernelIdeal) (hShiftedIdeal := hShiftedIdeal) (hPre_finite_w2 := hPre_finite_w2)
-- ==== Pre_finite_w2.lean ====
abbrev S16384x512 : Shape := ⟨2, ![16384, 512]⟩
abbrev S16384 : Shape := ⟨1, ![16384]⟩
abbrev S256x512 : Shape := ⟨2, ![256, 512]⟩
abbrev S1x256 : Shape := ⟨2, ![1, 256]⟩
abbrev S_ : Shape := ⟨0, ![]⟩

class Facts : Prop where
  bcast_S_S1x256 : S_.BroadcastsInDim S1x256 (![] : Fin 0 → Fin S1x256.rank)

variable [Facts]

def fn {F : FTy → Type} [FloatOps F] (main_arg0 : FVec F S16384x512 .f32) (main_arg1 : IVec S16384 32) (main_arg2 : FVec F S256x512 .f32) (main_arg3 : FVec F S1x256 .f32) : IVec S1x256 1 :=
  let main_cst : FVec F S_ .f32 := constant S_ .f32 0x7F800000#32
  let main_v0 : FVec F S1x256 .f32 := broadcastInDim S1x256 ![] bcast_S_S1x256 main_cst
  let main_v1 : IVec S1x256 1 := cmpf .olt main_arg3 main_v0
  let main_cst_0 : FVec F S_ .f32 := constant S_ .f32 0xFF800000#32
  let main_v2 : FVec F S1x256 .f32 := broadcastInDim S1x256 ![] bcast_S_S1x256 main_cst_0
  let main_v3 : IVec S1x256 1 := cmpf .ogt main_arg3 main_v2
  let main_v4 : IVec S1x256 1 := andi main_v1 main_v3
  main_v4
-- ==== Kernel.lean ====
abbrev S16384x512 : Shape := ⟨2, ![16384, 512]⟩
abbrev S16384 : Shape := ⟨1, ![16384]⟩
abbrev S256x512 : Shape := ⟨2, ![256, 512]⟩
abbrev S1x256 : Shape := ⟨2, ![1, 256]⟩
abbrev S4x1x4096 : Shape := ⟨3, ![4, 1, 4096]⟩
abbrev S512x256 : Shape := ⟨2, ![512, 256]⟩
abbrev S256x1 : Shape := ⟨2, ![256, 1]⟩
abbrev S16x512 : Shape := ⟨2, ![16, 512]⟩
abbrev S4096x512 : Shape := ⟨2, ![4096, 512]⟩
abbrev S1x1x4096 : Shape := ⟨3, ![1, 1, 4096]⟩
abbrev S16x1 : Shape := ⟨2, ![16, 1]⟩
abbrev S2x16x4096 : Shape := ⟨3, ![2, 16, 4096]⟩
abbrev S2x4096x512 : Shape := ⟨3, ![2, 4096, 512]⟩
abbrev S1x16x4096 : Shape := ⟨3, ![1, 16, 4096]⟩
abbrev S16x4096 : Shape := ⟨2, ![16, 4096]⟩
abbrev S1x4096x512 : Shape := ⟨3, ![1, 4096, 512]⟩
abbrev S4096x256 : Shape := ⟨2, ![4096, 256]⟩
abbrev S4096x1 : Shape := ⟨2, ![4096, 1]⟩
abbrev S1x4096 : Shape := ⟨2, ![1, 4096]⟩
abbrev S16 : Shape := ⟨1, ![16]⟩

abbrev nBuf : Space → Nat
  | .hbm => 10
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S256x512, .f32⟩
  | .hbm, ⟨3, _⟩ => ⟨S1x256, .f32⟩
  | .hbm, ⟨4, _⟩ => ⟨S4x1x4096, .i32⟩
  | .hbm, ⟨5, _⟩ => ⟨S512x256, .f32⟩
  | .hbm, ⟨6, _⟩ => ⟨S512x256, .bf16⟩
  | .hbm, ⟨7, _⟩ => ⟨S256x1, .f32⟩
  | .hbm, ⟨8, _⟩ => ⟨S256x1, .bf16⟩
  | .hbm, ⟨9, _⟩ => ⟨S16x512, .f32⟩
  | .local _ .vmem, ⟨0, _⟩ => ⟨S4096x512, .f32⟩
  | .local _ .vmem, ⟨1, _⟩ => ⟨S4096x512, .f32⟩
  | .local _ .vmem, ⟨2, _⟩ => ⟨S1x1x4096, .i32⟩
  | .local _ .vmem, ⟨3, _⟩ => ⟨S1x1x4096, .i32⟩
  | .local _ .vmem, ⟨4, _⟩ => ⟨S512x256, .bf16⟩
  | .local _ .vmem, ⟨5, _⟩ => ⟨S256x1, .bf16⟩
  | .local _ .vmem, ⟨6, _⟩ => ⟨S16x512, .f32⟩
  | .local _ .vmem, ⟨7, _⟩ => ⟨S16x512, .f32⟩
  | .local _ .vmem, ⟨8, _⟩ => ⟨S16x1, .f32⟩
  | .local _ .vmem, ⟨9, _⟩ => ⟨S2x16x4096, .bf16⟩
  | .local _ .vmem, ⟨10, _⟩ => ⟨S2x4096x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def k0_off1 (i : grid0.Coords) : Fin 3 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v52 : Index := Scalar.indexCast v4
  let c0_27 : Index := 0#32
  let c0_28 : Index := 0#32
  ![v52.toNat, 0, 0]
def k0_off2 (i : grid0.Coords) : Fin 3 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v55 : Index := Scalar.indexCast v4
  let c0_29 : Index := 0#32
  let c0_30 : Index := 0#32
  ![v55.toNat, 0, 0]
def k0_off3 (i : grid0.Coords) : Fin 3 → Nat :=
  let arg0 : BitVec 32 := BitVec.ofNat 32 (i 0).val
  let c2_i32 : BitVec 32 := 2#32
  let v3 : BitVec 32 := Scalar.remsi arg0 c2_i32
  let v10 : Index := Scalar.indexCast v3
  let c0_4 : Index := 0#32
  let c0_5 : Index := 0#32
  ![v10.toNat, 0, 0]
def k0_off4 (i : grid0.Coords) : Fin 3 → Nat :=
  let arg0 : BitVec 32 := BitVec.ofNat 32 (i 0).val
  let c2_i32 : BitVec 32 := 2#32
  let v3 : BitVec 32 := Scalar.remsi arg0 c2_i32
  let v44 : Index := Scalar.indexCast v3
  let c0_22 : Index := 0#32
  let c0_23 : Index := 0#32
  ![v44.toNat, 0, 0]
def k0_cond3 (i : grid0.Coords) : BitVec 1 :=
  let arg0 : BitVec 32 := BitVec.ofNat 32 (i 0).val
  let c3_i32 : BitVec 32 := 3#32
  let v48 : BitVec 1 := Scalar.cmpi .eq arg0 c3_i32
  let v49 : BitVec 32 := Scalar.extui v48
  let c0_i32_24 : BitVec 32 := 0#32
  let v50 : BitVec 1 := Scalar.cmpi .ne v49 c0_i32_24
  v50

def k0_off5 (i : grid0.Coords) : Fin 3 → Nat :=
  let arg0 : BitVec 32 := BitVec.ofNat 32 (i 0).val
  let c2_i32 : BitVec 32 := 2#32
  let v3 : BitVec 32 := Scalar.remsi arg0 c2_i32
  let v52 : Index := Scalar.indexCast v3
  let c0_27 : Index := 0#32
  let c0_28 : Index := 0#32
  ![v52.toNat, 0, 0]
def k0_off6 (i : grid0.Coords) : Fin 3 → Nat :=
  let arg0 : BitVec 32 := BitVec.ofNat 32 (i 0).val
  let c2_i32 : BitVec 32 := 2#32
  let v3 : BitVec 32 := Scalar.remsi arg0 c2_i32
  let v55 : Index := Scalar.indexCast v3
  let c0_29 : Index := 0#32
  let c0_30 : Index := 0#32
  ![v55.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16384x512 : Shape := ⟨2, ![16384, 512]⟩
abbrev S16384 : Shape := ⟨1, ![16384]⟩
abbrev S256x512 : Shape := ⟨2, ![256, 512]⟩
abbrev S1x256 : Shape := ⟨2, ![1, 256]⟩
abbrev S512x256 : Shape := ⟨2, ![512, 256]⟩
abbrev S16384x256 : Shape := ⟨2, ![16384, 256]⟩
abbrev S256x1 : Shape := ⟨2, ![256, 1]⟩
abbrev S16384x1 : Shape := ⟨2, ![16384, 1]⟩
abbrev S_ : Shape := ⟨0, ![]⟩
abbrev S16x1 : Shape := ⟨2, ![16, 1]⟩
abbrev S16x512 : Shape := ⟨2, ![16, 512]⟩

abbrev nBuf : Space → Nat
  | .hbm => 33
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S256x512, .f32⟩
  | .hbm, ⟨3, _⟩ => ⟨S1x256, .f32⟩
  | .hbm, ⟨4, _⟩ => ⟨S512x256, .f32⟩
  | .hbm, ⟨5, _⟩ => ⟨S16384x256, .f32⟩
  | .hbm, ⟨6, _⟩ => ⟨S16384x256, .f32⟩
  | .hbm, ⟨7, _⟩ => ⟨S256x1, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16x1, .f32⟩
  | .hbm, ⟨12, _⟩ => ⟨S16384x1, .i32⟩
  | .hbm, ⟨13, _⟩ => ⟨S16x1, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S16x512, .f32⟩
  | .hbm, ⟨31, _⟩ => ⟨S16384x1, .i32⟩
  | .hbm, ⟨32, _⟩ => ⟨S16x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== ShiftedIdeal.lean ====
abbrev S16384x512 : Shape := ⟨2, ![16384, 512]⟩
abbrev S16384 : Shape := ⟨1, ![16384]⟩
abbrev S256x512 : Shape := ⟨2, ![256, 512]⟩
abbrev S1x256 : Shape := ⟨2, ![1, 256]⟩
abbrev S512x256 : Shape := ⟨2, ![512, 256]⟩
abbrev S16384x256 : Shape := ⟨2, ![16384, 256]⟩
abbrev S256x1 : Shape := ⟨2, ![256, 1]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S_ : Shape := ⟨0, ![]⟩
abbrev S16x1 : Shape := ⟨2, ![16, 1]⟩
abbrev S16x512 : Shape := ⟨2, ![16, 512]⟩

abbrev nBuf : Space → Nat
  | .hbm => 69
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S256x512, .f32⟩
  | .hbm, ⟨3, _⟩ => ⟨S1x256, .f32⟩
  | .hbm, ⟨4, _⟩ => ⟨S512x256, .f32⟩
  | .hbm, ⟨5, _⟩ => ⟨S16384x256, .f32⟩
  | .hbm, ⟨6, _⟩ => ⟨S16384x256, .f32⟩
  | .hbm, ⟨7, _⟩ => ⟨S256x1, .f32⟩
  | .hbm, ⟨8, _⟩ => ⟨S16384x1, .f32⟩
  | .hbm, ⟨9, _⟩ => ⟨S16384x1, .i32⟩
  | .hbm, ⟨10, _⟩ => ⟨S16, .i32⟩
  | .hbm, ⟨11, _⟩ => ⟨S1x16, .i32⟩
  | .hbm, ⟨12, _⟩ => ⟨S16384x16, .i32⟩
  | .hbm, ⟨13, _⟩ => ⟨S16384x16, .i32⟩
  | .hbm, ⟨14, _⟩ => ⟨S16384x16, .i1⟩
  | .hbm, ⟨15, _⟩ => ⟨S_, .f32⟩
  | .hbm, ⟨16, _⟩ => ⟨S_, .f32⟩
  | .hbm, ⟨17, _⟩ => ⟨S16384x16, .f32⟩
  | .hbm, ⟨18, _⟩ => ⟨S16384x16, .f32⟩
  | .hbm, ⟨19, _⟩ => ⟨S16384x16, .f32⟩
  | .hbm, ⟨20, _⟩ => ⟨S_, .f32⟩
  | .hbm, ⟨21, _⟩ => ⟨S16, .f32⟩
  | .hbm, ⟨22, _⟩ => ⟨S16x1, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16x1, .f32⟩
  | .hbm, ⟨36, _⟩ => ⟨S16384x1, .i32⟩
  | .hbm, ⟨37, _⟩ => ⟨S16x1, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384x1, .f32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S16384, .i32⟩
  | .hbm, ⟨54, _⟩ => ⟨S16384x1, .i32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S16x512, .f32⟩
  | .hbm, ⟨67, _⟩ => ⟨S16384x1, .i32⟩
  | .hbm, ⟨68, _⟩ => ⟨S16x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.Pool.Runs.lean ====
/- What the runs of the pooling kernel's body share: the body's three conditions in closed form over the grid's four
   points, where the output window is idle, the memrefs the body is called with, and what one point computes (the block it
   rounds, the weights it forms, the running sums), each as a function of the values read. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.ReadBack
public import Idealize.ShloMosaic.Lib.Pipeline.Value
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's conditions -/

/-- The first conditional's test, that this is the grid's first point. -/
abbrev isFirst (i : grid0.Coords) : Prop :=
  Scalar.cmpi .ne (Scalar.extui (Scalar.cmpi .eq (BitVec.ofNat 32 (i 0).val) 0#32)) 0#32 = 1#1
/-- The second conditional's test, that a point came before. -/
abbrev isLater (i : grid0.Coords) : Prop := k0_cond2 i = 1#1
/-- The third conditional's test, that this is the grid's last point. -/
abbrev isLast (i : grid0.Coords) : Prop := k0_cond3 i = 1#1

/-- The first branch is taken at point 0 alone, -/
theorem isFirst_iff : ∀ t : Fin cfg0.N, isFirst (grid0.coords t) ↔ t.val = 0 :=
  (by decide +kernel : ∀ t : Fin grid0.N, isFirst (grid0.coords t) ↔ t.val = 0)
/-- the second at every other, -/
theorem isLater_iff : ∀ t : Fin cfg0.N, isLater (grid0.coords t) ↔ t.val ≠ 0 :=
  (by decide +kernel : ∀ t : Fin grid0.N, isLater (grid0.coords t) ↔ t.val ≠ 0)
/-- and the third at point 3 alone. -/
theorem isLast_iff : ∀ t : Fin cfg0.N, isLast (grid0.coords t) ↔ t.val = 3 :=
  (by decide +kernel : ∀ t : Fin grid0.N, isLast (grid0.coords t) ↔ t.val = 3)

/-- Before the last point the output window is idle … -/
theorem idle_out : ∀ t : Fin cfg0.N, t.val ≠ 3 → cfg0.idle 4 (grid0.coords t) = true :=
  (by decide +kernel : ∀ t : Fin grid0.N, t.val ≠ 3 → cfg0.idle 4 (grid0.coords t) = true)
/-- … and not written back; -/
theorem noFlush_out : ∀ t : Fin cfg0.N, t.val ≠ 3 → (cfg0.win 4).flush t = false :=
  (by decide +kernel : ∀ t : Fin grid0.N, t.val ≠ 3 → (cfg0.win 4).flush t = false)
/-- at the last point it is stored whole. -/
theorem live_out : ∀ t : Fin cfg0.N, t.val = 3 → cfg0.idle 4 (grid0.coords t) = false :=
  (by decide +kernel : ∀ t : Fin grid0.N, t.val = 3 → cfg0.idle 4 (grid0.coords t) = false)

/-! ## The memrefs the body is called with -/

/-- The rows' buffer at a point, -/
abbrev mX (t : Fin cfg0.N) : Memref sig .tc .vmem S4096x512 .f32 := win0_0.stage (cfg0.slots t 0)
/-- which is whole; -/
abbrev hX (t : Fin cfg0.N) : (mX t).IsWhole := hstage0_0 ((cfg0.slots t 0).cast nbuf0_0)
/-- the segment numbers', -/
abbrev mB (t : Fin cfg0.N) : Memref sig .tc .vmem S1x1x4096 .i32 := win0_1.stage (cfg0.slots t 1)
/-- which is whole; -/
abbrev hB (t : Fin cfg0.N) : (mB t).IsWhole := hstage0_1 ((cfg0.slots t 1).cast nbuf0_1)
/-- the first weight matrix's, -/
abbrev mW1 (t : Fin cfg0.N) : Memref sig .tc .vmem S512x256 .bf16 := win0_2.stage (cfg0.slots t 2)
/-- which is whole; -/
abbrev hW1 (t : Fin cfg0.N) : (mW1 t).IsWhole := hstage0_2 ((cfg0.slots t 2).cast nbuf0_2)
/-- the second's, -/
abbrev mW2 (t : Fin cfg0.N) : Memref sig .tc .vmem S256x1 .bf16 := win0_3.stage (cfg0.slots t 3)
/-- which is whole; -/
abbrev hW2 (t : Fin cfg0.N) : (mW2 t).IsWhole := hstage0_3 ((cfg0.slots t 3).cast nbuf0_3)
/-- and the output's, -/
abbrev mO (t : Fin cfg0.N) : Memref sig .tc .vmem S16x512 .f32 := win0_4.stage (cfg0.slots t 4)
/-- which is whole. -/
abbrev hO (t : Fin cfg0.N) : (mO t).IsWhole := hstage0_4 ((cfg0.slots t 4).cast nbuf0_4)
/-- The running weighted sums of rows, -/
abbrev mAcc : Memref sig .tc .vmem S16x512 .f32 := Memref.whole cc0_scratch0
/-- the running sums of weights, -/
abbrev mSum : Memref sig .tc .vmem S16x1 .f32 := Memref.whole cc0_scratch1
/-- the two slots of rounded weights -/
abbrev mWt : Memref sig .tc .vmem S2x16x4096 .bf16 := Memref.whole cc0_scratch2
/-- and the two slots of rounded rows. -/
abbrev mRow : Memref sig .tc .vmem S2x4096x512 .bf16 := Memref.whole cc0_scratch3

/-- The launch's invariant with the scratch operands as memrefs owned at some contents. -/
theorem launchInv_eq (c : Dev nD) :
    (Pipeline.ΦA spec0 c : sProp 𝕄)
      = iprop(iprop((∃ d, owns (c : Thread nD τ) mAcc fullShare d) ∗ (∃ d, owns (c : Thread nD τ) mSum fullShare d)
        ∗ (∃ d, owns (c : Thread nD τ) mWt fullShare d) ∗ (∃ d, owns (c : Thread nD τ) mRow fullShare d)) ∗ (∃ r, prngReg c r)) := by
  unfold Pipeline.ΦA; rw [scopedRest0_eq]; simp only [mAcc, mSum, mWt, mRow, owns_whole]; try rfl

/-! ## What a point computes -/

/-- A slot of weights is within its scratch, -/
theorem wtSlot_inb (s : ℕ) (hs : s < 2) : ∀ a, (![s, 0, 0] : Fin 3 → ℕ) a + S1x16x4096.size a ≤ S2x16x4096.size a := fun a => by
  fin_cases a <;> simp [S1x16x4096, S2x16x4096] <;> omega
/-- and so is a slot of rows. -/
theorem rowSlot_inb (s : ℕ) (hs : s < 2) : ∀ a, (![s, 0, 0] : Fin 3 → ℕ) a + S1x4096x512.size a ≤ S2x4096x512.size a := fun a => by
  fin_cases a <;> simp [S1x4096x512, S2x4096x512] <;> omega

/-- One of the two slots of weights, -/
def wtSlot (s : ℕ) (hs : s < 2) (d : Vec F S2x16x4096 .bf16) : Vec F S1x16x4096 .bf16 :=
  VecWindow.window (s := S2x16x4096) d ![s, 0, 0] S1x16x4096.size (wtSlot_inb s hs)
/-- and one of the two slots of rows. -/
def rowSlot (s : ℕ) (hs : s < 2) (d : Vec F S2x4096x512 .bf16) : Vec F S1x4096x512 .bf16 :=
  VecWindow.window (s := S2x4096x512) d ![s, 0, 0] S1x4096x512.size (rowSlot_inb s hs)

/-- The exponentials a point forms, spread over the segments' rows. -/
def expOf (x : Vec F S4096x512 .f32) (w1 : Vec F S512x256 .bf16) (w2 : Vec F S256x1 .bf16) : FVec F S16x4096 .f32 :=
  k0_pay10 (k0_pay8 x) w1 w2
/-- The rounded weights a point stores. -/
def wtOf (x : Vec F S4096x512 .f32) (b : Vec F S1x1x4096 .i32) (w1 : Vec F S512x256 .bf16) (w2 : Vec F S256x1 .bf16) :
    Vec F S1x16x4096 .bf16 :=
  k0_pay3 (k0_pay9 (F := F) b) (Scalar.ofBits .f32 0x00000000#32) (expOf x w1 w2)
/-- The sums of weights after a point that found them at `s`. -/
def sumOf (x : Vec F S4096x512 .f32) (b : Vec F S1x1x4096 .i32) (w1 : Vec F S512x256 .bf16) (w2 : Vec F S256x1 .bf16)
    (s : Vec F S16x1 .f32) : Vec F S16x1 .f32 :=
  k0_pay2 (k0_pay9 (F := F) b) (Scalar.ofBits .f32 0x00000000#32) (expOf x w1 w2) s

end Cert.Pool

end
-- ==== Proof.Pool.Body.lean ====
/- The body of the pooling kernel run once per case of its conditionals (the grid's first point, a point between, the
   last point): what it finds, what it leaves. The two slots of a double-buffered scratch are stated one at a time: the body
   leaves the slot it stores reading as what it stored and says nothing of the other. -/
module

public import proofs.«01_k».proof.Proof.Pool.Runs

@[expose] public section

set_option maxRecDepth 16384

noncomputable section

namespace Cert.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads of a whole memref -/

/-- The block of rows, loaded whole, reads as its contents; -/
theorem load_x (m : Memref sig .tc .vmem S4096x512 .f32) (h : m.IsWhole) (d : Vec F S4096x512 .f32) (inb : ∀ a, ![0, 0] a + ![4096, 512] a ≤ S4096x512.size a) :
    m.view.readAt (Elt F) (Rect.unit (s := S4096x512) ![0, 0] ![4096, 512] inb).toLoadRect (h.unread d) = d :=
  (View.readAt_full m.view (h.unread d) inb).trans (h.read_unread d)

/-- so does the block of segment numbers, -/
theorem load_b (m : Memref sig .tc .vmem S1x1x4096 .i32) (h : m.IsWhole) (d : Vec F S1x1x4096 .i32) (inb : ∀ a, ![0, 0, 0] a + ![1, 1, 4096] a ≤ S1x1x4096.size a) :
    m.view.readAt (Elt F) (Rect.unit (s := S1x1x4096) ![0, 0, 0] ![1, 1, 4096] inb).toLoadRect (h.unread d) = d :=
  (View.readAt_full m.view (h.unread d) inb).trans (h.read_unread d)

/-- the first weight matrix, -/
theorem load_w1 (m : Memref sig .tc .vmem S512x256 .bf16) (h : m.IsWhole) (d : Vec F S512x256 .bf16) (inb : ∀ a, ![0, 0] a + ![512, 256] a ≤ S512x256.size a) :
    m.view.readAt (Elt F) (Rect.unit (s := S512x256) ![0, 0] ![512, 256] inb).toLoadRect (h.unread d) = d :=
  (View.readAt_full m.view (h.unread d) inb).trans (h.read_unread d)

/-- the second, -/
theorem load_w2 (m : Memref sig .tc .vmem S256x1 .bf16) (h : m.IsWhole) (d : Vec F S256x1 .bf16) (inb : ∀ a, ![0, 0] a + ![256, 1] a ≤ S256x1.size a) :
    m.view.readAt (Elt F) (Rect.unit (s := S256x1) ![0, 0] ![256, 1] inb).toLoadRect (h.unread d) = d :=
  (View.readAt_full m.view (h.unread d) inb).trans (h.read_unread d)

/-- the running weighted sums -/
theorem load_acc (m : Memref sig .tc .vmem S16x512 .f32) (h : m.IsWhole) (d : Vec F S16x512 .f32) (inb : ∀ a, ![0, 0] a + ![16, 512] a ≤ S16x512.size a) :
    m.view.readAt (Elt F) (Rect.unit (s := S16x512) ![0, 0] ![16, 512] inb).toLoadRect (h.unread d) = d :=
  (View.readAt_full m.view (h.unread d) inb).trans (h.read_unread d)

/-- and the running sums of weights. -/
theorem load_sum (m : Memref sig .tc .vmem S16x1 .f32) (h : m.IsWhole) (d : Vec F S16x1 .f32) (inb : ∀ a, ![0, 0] a + ![16, 1] a ≤ S16x1.size a) :
    m.view.readAt (Elt F) (Rect.unit (s := S16x1) ![0, 0] ![16, 1] inb).toLoadRect (h.unread d) = d :=
  (View.readAt_full m.view (h.unread d) inb).trans (h.read_unread d)

/-! ## The slots read and stored -/

/-- The slot a point stores into, -/
abbrev cur (i : grid0.Coords) : ℕ := (i 0).val % 2
/-- The slot a point stores is one of the two. -/
theorem cur_lt (i : grid0.Coords) : cur i < 2 := Nat.mod_lt _ (by decide)
/-- and the other one, which the point before stored into. -/
abbrev prv (i : grid0.Coords) : ℕ := 1 - (i 0).val % 2
/-- The slot a point reads is one of the two. -/
theorem prv_lt (i : grid0.Coords) : prv i < 2 := by show 1 - (i 0).val % 2 < 2; omega

/-- The other slot of weights, loaded, reads as that slot of the contents. -/
theorem load_prv_wt (i : grid0.Coords) (m : Memref sig .tc .vmem S2x16x4096 .bf16) (h : m.IsWhole) (d : Vec F S2x16x4096 .bf16)
    (inb : ∀ a, k0_off1 i a + (![1, 16, 4096] : Fin 3 → ℕ) a ≤ S2x16x4096.size a) :
    m.view.readAt (Elt F) (Rect.unit (s := S2x16x4096) (k0_off1 i) ![1, 16, 4096] inb).toLoadRect (h.unread d) = wtSlot (prv i) (prv_lt i) d := by
  exact (View.readAt_unit m.view _ inb (k0_off1_eq i) (wtSlot_inb _ (prv_lt i))).trans (by rw [h.read_unread, wtSlot])

/-- The other slot of rows likewise. -/
theorem load_prv_row (i : grid0.Coords) (m : Memref sig .tc .vmem S2x4096x512 .bf16) (h : m.IsWhole) (d : Vec F S2x4096x512 .bf16)
    (inb : ∀ a, k0_off2 i a + (![1, 4096, 512] : Fin 3 → ℕ) a ≤ S2x4096x512.size a) :
    m.view.readAt (Elt F) (Rect.unit (s := S2x4096x512) (k0_off2 i) ![1, 4096, 512] inb).toLoadRect (h.unread d) = rowSlot (prv i) (prv_lt i) d := by
  exact (View.readAt_unit m.view _ inb (k0_off2_eq i) (rowSlot_inb _ (prv_lt i))).trans (by rw [h.read_unread, rowSlot])

/-- After a store into the current slot of weights, that slot reads as what was stored. -/
theorem slot_stored_wt (i : grid0.Coords) (v : View sig .tc .vmem S2x16x4096 .bf16) (f : v.ty.Contents (Elt F))
    (inb : ∀ a, k0_off4 i a + S1x16x4096.size a ≤ S2x16x4096.size a) (w : Vec F S1x16x4096 .bf16) :
    wtSlot (cur i) (cur_lt i) (v.read (Elt F) (v.writes (Elt F) f [⟨Rect.unit (s := S2x16x4096) (k0_off4 i) S1x16x4096.size inb, w⟩])) = w := by
  rw [wtSlot, View.read_writes_cons_put v f inb w [] (k0_off4_eq i)]
  exact VecWindow.window_put_same (s := S2x16x4096) _ ![cur i, 0, 0] S1x16x4096.size (wtSlot_inb _ (cur_lt i)) w

/-- After a store into the current slot of rows, that slot reads as what was stored. -/
theorem slot_stored_row (i : grid0.Coords) (v : View sig .tc .vmem S2x4096x512 .bf16) (f : v.ty.Contents (Elt F))
    (inb : ∀ a, k0_off3 i a + S1x4096x512.size a ≤ S2x4096x512.size a) (w : Vec F S1x4096x512 .bf16) :
    rowSlot (cur i) (cur_lt i) (v.read (Elt F) (v.writes (Elt F) f [⟨Rect.unit (s := S2x4096x512) (k0_off3 i) S1x4096x512.size inb, w⟩])) = w := by
  rw [rowSlot, View.read_writes_cons_put v f inb w [] (k0_off3_eq i)]
  exact VecWindow.window_put_same (s := S2x4096x512) _ ![cur i, 0, 0] S1x4096x512.size (rowSlot_inb _ (cur_lt i)) w

/-- The current slot of weights, loaded after the store into it, reads as what was stored. -/
theorem load_cur_wt (i : grid0.Coords) (v : View sig .tc .vmem S2x16x4096 .bf16) (w : Vec F S1x16x4096 .bf16)
    (inb : ∀ a, k0_off5 i a + (![1, 16, 4096] : Fin 3 → ℕ) a ≤ S2x16x4096.size a) (inb' : ∀ a, k0_off4 i a + (![1, 16, 4096] : Fin 3 → ℕ) a ≤ S2x16x4096.size a) :
    v.readCov [⟨Rect.unit (s := S2x16x4096) (k0_off4 i) ![1, 16, 4096] inb', w⟩] (Rect.unit (s := S2x16x4096) (k0_off5 i) ![1, 16, 4096] inb).toLoadRect = w :=
  (View.readAt_unit v _ inb (k0_off5_eq i) (wtSlot_inb _ (cur_lt i))).trans (slot_stored_wt i v v.junk inb' w)

/-- The current slot of rows, loaded after the store into it, likewise. -/
theorem load_cur_row (i : grid0.Coords) (v : View sig .tc .vmem S2x4096x512 .bf16) (w : Vec F S1x4096x512 .bf16)
    (inb : ∀ a, k0_off6 i a + (![1, 4096, 512] : Fin 3 → ℕ) a ≤ S2x4096x512.size a) (inb' : ∀ a, k0_off3 i a + (![1, 4096, 512] : Fin 3 → ℕ) a ≤ S2x4096x512.size a) :
    v.readCov [⟨Rect.unit (s := S2x4096x512) (k0_off3 i) ![1, 4096, 512] inb', w⟩] (Rect.unit (s := S2x4096x512) (k0_off6 i) ![1, 4096, 512] inb).toLoadRect = w :=
  (View.readAt_unit v _ inb (k0_off6_eq i) (rowSlot_inb _ (cur_lt i))).trans (slot_stored_row i v v.junk inb' w)

/-! ## The body, case by case -/

section

variable (c : Dev nD) (i : grid0.Coords)
    (a1 : Memref sig .tc .vmem S4096x512 .f32) (h1 : a1.IsWhole) (a2 : Memref sig .tc .vmem S1x1x4096 .i32) (h2 : a2.IsWhole)
    (a3 : Memref sig .tc .vmem S512x256 .bf16) (h3 : a3.IsWhole) (a4 : Memref sig .tc .vmem S256x1 .bf16) (h4 : a4.IsWhole)
    (a5 : Memref sig .tc .vmem S16x512 .f32) (h5 : a5.IsWhole) (a6 : Memref sig .tc .vmem S16x512 .f32) (h6 : a6.IsWhole)
    (a7 : Memref sig .tc .vmem S16x1 .f32) (h7 : a7.IsWhole) (a8 : Memref sig .tc .vmem S2x16x4096 .bf16) (h8 : a8.IsWhole)
    (a9 : Memref sig .tc .vmem S2x4096x512 .bf16) (h9 : a9.IsWhole)
    (x : Vec F S4096x512 .f32) (b : Vec F S1x1x4096 .i32) (w1 : Vec F S512x256 .bf16) (w2 : Vec F S256x1 .bf16)

/-- What the body holds throughout: its four inputs at their blocks, the output's buffer, the two running sums, and the two
    double-buffered scratches at given contents. -/
def holds (out : Vec F S16x512 .f32) (acc : Vec F S16x512 .f32) (s : Vec F S16x1 .f32) (dw : Vec F S2x16x4096 .bf16)
    (dr : Vec F S2x4096x512 .bf16) : sProp 𝕄 :=
  iprop(owns (c : Thread nD τ) a1 fullShare x ∗ owns (c : Thread nD τ) a2 fullShare b ∗ owns (c : Thread nD τ) a3 fullShare w1
    ∗ owns (c : Thread nD τ) a4 fullShare w2 ∗ owns (c : Thread nD τ) a5 fullShare out
    ∗ owns (c : Thread nD τ) a6 fullShare acc ∗ owns (c : Thread nD τ) a7 fullShare s ∗ owns (c : Thread nD τ) a8 fullShare dw
    ∗ owns (c : Thread nD τ) a9 fullShare dr)

/-- The same after the body: the slots it stored into hold this point's weights and rows. -/
def leaves (out : Vec F S16x512 .f32) (acc : Vec F S16x512 .f32) (s : Vec F S16x1 .f32) : sProp 𝕄 :=
  iprop(∃ dw : Vec F S2x16x4096 .bf16, ∃ dr : Vec F S2x4096x512 .bf16,
    ⌜wtSlot (cur i) (cur_lt i) dw = wtOf x b w1 w2 ∧ rowSlot (cur i) (cur_lt i) dr = k0_pay8 x⌝
    ∗ holds c a1 a2 a3 a4 a5 a6 a7 a8 a9 x b w1 w2 out acc s dw dr)

/-- The buffers the body ends with, as raw contents, make up what it leaves. -/
theorem leaves_intro (f1 : a1.view.ty.Contents (Elt F)) (f2 : a2.view.ty.Contents (Elt F)) (f3 : a3.view.ty.Contents (Elt F))
    (f4 : a4.view.ty.Contents (Elt F)) (f5 : a5.view.ty.Contents (Elt F)) (f6 : a6.view.ty.Contents (Elt F)) (f7 : a7.view.ty.Contents (Elt F))
    (f8 : a8.view.ty.Contents (Elt F)) (f9 : a9.view.ty.Contents (Elt F)) (out acc : Vec F S16x512 .f32) (s : Vec F S16x1 .f32)
    (r1 : a1.view.read (Elt F) f1 = x) (r2 : a2.view.read (Elt F) f2 = b) (r3 : a3.view.read (Elt F) f3 = w1) (r4 : a4.view.read (Elt F) f4 = w2)
    (r5 : a5.view.read (Elt F) f5 = out) (r6 : a6.view.read (Elt F) f6 = acc) (r7 : a7.view.read (Elt F) f7 = s)
    (r8 : wtSlot (cur i) (cur_lt i) (a8.view.read (Elt F) f8) = wtOf x b w1 w2)
    (r9 : rowSlot (cur i) (cur_lt i) (a9.view.read (Elt F) f9) = k0_pay8 x) :
    iprop((a1.view.loc (c : Thread nD τ) ↦[a1.view.set]{fullShare} f1) ∗ (a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7) ∗ (a8.view.loc (c : Thread nD τ) ↦[a8.view.set]{fullShare} f8) ∗ (a9.view.loc (c : Thread nD τ) ↦[a9.view.set]{fullShare} f9))
      ⊢ (leaves c i a1 a2 a3 a4 a5 a6 a7 a8 a9 x b w1 w2 out acc s : sProp 𝕄) := by
  subst r1 r2 r3 r4 r5 r6 r7
  unfold leaves holds owns
  iintro ⟨H1, H2, H3, H4, H5, H6, H7, H8, H9⟩
  iexists (a8.view.read (Elt F) f8)
  iexists (a9.view.read (Elt F) f9)
  isplitr
  · ipureintro; exact ⟨r8, r9⟩
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  iexists f9; isplitr
  · ipureintro; rfl
  iexact H9

set_option maxHeartbeats 3200000 in
/-- The body at the first point: both running sums are cleared, and the point's weights are formed, summed and stored. -/
theorem runFirst (hc1 : isFirst i) (hc2 : ¬isLater i) (hc3 : ¬isLast i)
    (acc : Vec F S16x512 .f32) (s : Vec F S16x1 .f32) (dw : Vec F S2x16x4096 .bf16) (dr : Vec F S2x4096x512 .bf16)
    (out : Vec F S16x512 .f32) (E : Set ℕ) (K : PUnit → sProp 𝕄) :
    iprop(holds c a1 a2 a3 a4 a5 a6 a7 a8 a9 x b w1 w2 out acc s dw dr
      ∗ (leaves c i a1 a2 a3 a4 a5 a6 a7 a8 a9 x b w1 w2 out
          (k0_pay5 (F := F)) (sumOf x b w1 w2 (k0_pay6 (F := F))) -∗ K ⟨⟩))
    ⊢ wp frame (wpE (defs₀ (F := F)) Variants.none c none) E (cc0__pool_body i a1 h1 a2 h2 a3 h3 a4 h4 a5 h5 a6 h6 a7 h7 a8 h8 a9 h9) K := by
  simp only [cc0__pool_body_eq_skeleton]; unfold cc0__pool_body_skel
  simp only [k0_part1_eq_skeleton]
  unfold holds owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  obtain rfl := h1.eq_unread e1; obtain rfl := h2.eq_unread e2; obtain rfl := h3.eq_unread e3; obtain rfl := h4.eq_unread e4
  obtain rfl := h6.eq_unread e6; obtain rfl := h7.eq_unread e7; obtain rfl := h8.eq_unread e8; obtain rfl := h9.eq_unread e9
  sl_exec (disch := first | sl_exact hc1 | sl_exact hc2 | sl_exact hc3)
  sl_step
  unfold runFirst.sl.v36 runFirst.sl.H7_1 runFirst.sl.r_1 runFirst.sl.r runFirst.sl.v15 runFirst.sl.H9_1 runFirst.sl.cst_16
  simp only [View.readCov_cons_toLoadRect, load_x, load_b, load_w1, load_w2, load_acc, load_sum, load_prv_wt, load_prv_row]
  iapply Hk
  iapply (leaves_intro c i a1 a2 a3 a4 a5 a6 a7 a8 a9 x b w1 w2 _ _ _ _ _ _ _ _ _ _ _ _ e1 e2 e3 e4 e5 (View.read_writes_full a6.view _ _ _ _) (View.read_writes_full a7.view _ _ _ _)
    (slot_stored_wt i _ _ _ _) (slot_stored_row i _ _ _ _))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 3200000 in
/-- The body at a point between: the other slot of weights times the other slot of rows is added to the weighted sums, and
    this point's weights are formed, summed and stored. -/
theorem runMid (hc1 : ¬isFirst i) (hc2 : isLater i) (hc3 : ¬isLast i)
    (acc : Vec F S16x512 .f32) (s : Vec F S16x1 .f32) (dw : Vec F S2x16x4096 .bf16) (dr : Vec F S2x4096x512 .bf16)
    (out : Vec F S16x512 .f32) (E : Set ℕ) (K : PUnit → sProp 𝕄) :
    iprop(holds c a1 a2 a3 a4 a5 a6 a7 a8 a9 x b w1 w2 out acc s dw dr
      ∗ (leaves c i a1 a2 a3 a4 a5 a6 a7 a8 a9 x b w1 w2 out
          (k0_pay7 acc (wtSlot (prv i) (prv_lt i) dw) (rowSlot (prv i) (prv_lt i) dr)) (sumOf x b w1 w2 s) -∗ K ⟨⟩))
    ⊢ wp frame (wpE (defs₀ (F := F)) Variants.none c none) E (cc0__pool_body i a1 h1 a2 h2 a3 h3 a4 h4 a5 h5 a6 h6 a7 h7 a8 h8 a9 h9) K := by
  simp only [cc0__pool_body_eq_skeleton]; unfold cc0__pool_body_skel
  simp only [k0_part1_eq_skeleton]
  unfold holds owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  obtain rfl := h1.eq_unread e1; obtain rfl := h2.eq_unread e2; obtain rfl := h3.eq_unread e3; obtain rfl := h4.eq_unread e4
  obtain rfl := h6.eq_unread e6; obtain rfl := h7.eq_unread e7; obtain rfl := h8.eq_unread e8; obtain rfl := h9.eq_unread e9
  sl_exec (disch := first | sl_exact hc1 | sl_exact hc2 | sl_exact hc3)
  sl_step
  unfold runMid.sl.r_1 runMid.sl.r runMid.sl.v15 runMid.sl.H9_1 runMid.sl.cst_16
  simp only [View.readCov_cons_toLoadRect, load_x, load_b, load_w1, load_w2, load_acc, load_sum, load_prv_wt, load_prv_row]
  iapply Hk
  iapply (leaves_intro c i a1 a2 a3 a4 a5 a6 a7 a8 a9 x b w1 w2 _ _ _ _ _ _ _ _ _ _ _ _ e1 e2 e3 e4 e5 (View.read_writes_full a6.view _ _ _ _) (View.read_writes_full a7.view _ _ _ _)
    (slot_stored_wt i _ _ _ _) (slot_stored_row i _ _ _ _))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 3200000 in
/-- The body at the last point: what a point between does, and then this point's own product is added to the weighted sums,
    which the guarded sums of weights divide into the output. -/
theorem runLast (hc1 : ¬isFirst i) (hc2 : isLater i) (hc3 : isLast i)
    (acc : Vec F S16x512 .f32) (s : Vec F S16x1 .f32) (dw : Vec F S2x16x4096 .bf16) (dr : Vec F S2x4096x512 .bf16)
    (out : Vec F S16x512 .f32) (E : Set ℕ) (K : PUnit → sProp 𝕄) :
    iprop(holds c a1 a2 a3 a4 a5 a6 a7 a8 a9 x b w1 w2 out acc s dw dr
      ∗ (leaves c i a1 a2 a3 a4 a5 a6 a7 a8 a9 x b w1 w2 (k0_pay4 (k0_pay7 acc (wtSlot (prv i) (prv_lt i) dw) (rowSlot (prv i) (prv_lt i) dr)) (wtOf x b w1 w2) (k0_pay8 x)
            (sumOf x b w1 w2 s))
          (k0_pay7 acc (wtSlot (prv i) (prv_lt i) dw) (rowSlot (prv i) (prv_lt i) dr)) (sumOf x b w1 w2 s) -∗ K ⟨⟩))
    ⊢ wp frame (wpE (defs₀ (F := F)) Variants.none c none) E (cc0__pool_body i a1 h1 a2 h2 a3 h3 a4 h4 a5 h5 a6 h6 a7 h7 a8 h8 a9 h9) K := by
  simp only [cc0__pool_body_eq_skeleton]; unfold cc0__pool_body_skel
  simp only [k0_part1_eq_skeleton]
  unfold holds owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  obtain rfl := h1.eq_unread e1; obtain rfl := h2.eq_unread e2; obtain rfl := h3.eq_unread e3; obtain rfl := h4.eq_unread e4
  obtain rfl := h6.eq_unread e6; obtain rfl := h7.eq_unread e7; obtain rfl := h8.eq_unread e8; obtain rfl := h9.eq_unread e9
  sl_exec (disch := first | sl_exact hc1 | sl_exact hc2 | sl_exact hc3)
  sl_step
  unfold runLast.sl.v51 runLast.sl.v53 runLast.sl.v56 runLast.sl.v60 runLast.sl.H6_1 runLast.sl.H7_1 runLast.sl.H8_1
  unfold runLast.sl.r_1 runLast.sl.r runLast.sl.v15 runLast.sl.H9_1 runLast.sl.cst_16
  simp only [load_cur_wt, load_cur_row, View.readCov_cons_toLoadRect, load_x, load_b, load_w1, load_w2, load_acc, load_sum, load_prv_wt, load_prv_row]
  iapply Hk
  iapply (leaves_intro c i a1 a2 a3 a4 a5 a6 a7 a8 a9 x b w1 w2 _ _ _ _ _ _ _ _ _ _ _ _ e1 e2 e3 e4 (View.read_writes_full a5.view _ _ _ _) (View.read_writes_full a6.view _ _ _ _) (View.read_writes_full a7.view _ _ _ _)
    (slot_stored_wt i _ _ _ _) (slot_stored_row i _ _ _ _))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end

end Cert.Pool

end
-- ==== Proof.Pool.Frame.lean ====
/- The frame of the pooling kernel: the running sums point by point, the invariant between points (the running sums at what
   the point before left, and of each two-slot scratch the slot that point stored), the proof data of the pipeline, the body's
   obligation at each point, and the run. -/
module

public import proofs.«01_k».proof.Proof.Pool.Body
public import Idealize.ShloMosaic.Lib.Claim

@[expose] public section

set_option maxRecDepth 16384

noncomputable section

namespace Cert.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute, from the arrays the region finds -/

/-- The rows a point reads, -/
abbrev xAt (c : Dev nD) (t : Fin cfg0.N) : Vec F S4096x512 .f32 := iblk m c 0 t
/-- its segment numbers -/
abbrev bAt (c : Dev nD) (t : Fin cfg0.N) : Vec F S1x1x4096 .i32 := iblk m c 1 t
/-- and the two weight matrices. -/
abbrev w1At (c : Dev nD) (t : Fin cfg0.N) : Vec F S512x256 .bf16 := iblk m c 2 t
/-- The second weight matrix at point `t`. -/
abbrev w2At (c : Dev nD) (t : Fin cfg0.N) : Vec F S256x1 .bf16 := iblk m c 3 t

/-- The weights a point stores. -/
def wtAt (c : Dev nD) (t : Fin cfg0.N) : Vec F S1x16x4096 .bf16 := wtOf (xAt m c t) (bAt m c t) (w1At m c t) (w2At m c t)
/-- The rows a point stores. -/
def rowAt (c : Dev nD) (t : Fin cfg0.N) : Vec F S1x4096x512 .bf16 := k0_pay8 (xAt m c t)

/-- The running weighted sums after point `n`: they lag a point behind, so the first leaves them at zero. -/
def accAfter (c : Dev nD) : (n : ℕ) → n < cfg0.N → Vec F S16x512 .f32
  | 0, _ => k0_pay5
  | n + 1, h => k0_pay7 (accAfter c n (Nat.lt_of_succ_lt h)) (wtAt m c ⟨n, Nat.lt_of_succ_lt h⟩) (rowAt m c ⟨n, Nat.lt_of_succ_lt h⟩)

/-- The running sums of weights after point `n`. -/
def sumAfter (c : Dev nD) : (n : ℕ) → (h : n < cfg0.N) → Vec F S16x1 .f32
  | 0, h => sumOf (xAt m c ⟨0, h⟩) (bAt m c ⟨0, h⟩) (w1At m c ⟨0, h⟩) (w2At m c ⟨0, h⟩) k0_pay6
  | n + 1, h => sumOf (xAt m c ⟨n + 1, h⟩) (bAt m c ⟨n + 1, h⟩) (w1At m c ⟨n + 1, h⟩) (w2At m c ⟨n + 1, h⟩)
      (sumAfter c n (Nat.lt_of_succ_lt h))

/-- What the last point stores to the output, were point `t` the last. -/
def outAt (c : Dev nD) (t : Fin cfg0.N) : Vec F S16x512 .f32 :=
  k0_pay4 (accAfter m c t.val t.isLt) (wtAt m c t) (rowAt m c t) (sumAfter m c t.val t.isLt)

/-! ## The invariant between points -/

/-- After point `n`: the running sums, and the slot the point stored of each two-slot scratch. -/
def carried (c : Dev nD) (n : ℕ) (h : n < cfg0.N) : sProp 𝕄 :=
  iprop(iprop(∃ dw : Vec F S2x16x4096 .bf16, ∃ dr : Vec F S2x4096x512 .bf16,
      ⌜wtSlot (n % 2) (Nat.mod_lt _ (by decide)) dw = wtAt m c ⟨n, h⟩ ∧ rowSlot (n % 2) (Nat.mod_lt _ (by decide)) dr = rowAt m c ⟨n, h⟩⌝
      ∗ owns (c : Thread nD τ) mAcc fullShare (accAfter m c n h) ∗ owns (c : Thread nD τ) mSum fullShare (sumAfter m c n h)
      ∗ owns (c : Thread nD τ) mWt fullShare dw ∗ owns (c : Thread nD τ) mRow fullShare dr)
    ∗ (∃ r, prngReg c r))

/-- The invariant before position `n`: at the start whatever the launch hands over, then what the point before carried on. -/
def inv (c : Dev nD) : (n : ℕ) → n ≤ cfg0.N → sProp 𝕄
  | 0, _ => Pipeline.ΦA spec0 c
  | n + 1, h => carried m c n h

/-- After the first position the invariant is what the point before carried on. -/
theorem inv_pos (c : Dev nD) (n : ℕ) (h : n ≤ cfg0.N) (hz : n ≠ 0) :
    inv m c n h = carried m c (n - 1) (by omega) := by
  cases n with
  | zero => exact absurd rfl hz
  | succ n => rfl

/-! ## The proof data -/

/-- The pipeline's proof data: arrays as the region finds them, inputs left at their blocks, the output at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val (Nat.le_of_lt_succ t.isLt)
  q _ := fullShare
  owed _ := 0

/-- The proof data's arrays are those the region finds. -/
theorem A_eq (c : Dev nD) (w : Fin cfg0.W) : (dats m 0 c).A w = V m c (Pipeline.arrRef spec0 w) := by
  dsimp only [dats]

/-- The proof data's invariant before a point. -/
theorem inv_castSucc (c : Dev nD) (t : Fin cfg0.N) : (dats m 0 c).Φ t.castSucc = inv m c t.val (Nat.le_of_lt t.isLt) := by
  dsimp only [dats]; exact Pipeline.Dat.Φ_castSucc (inv m c) t

/-- The rows are left as they were staged, -/
theorem after_x (c : Dev nD) (t : Fin cfg0.N) : (dats m 0 c).after 0 t = iblk m c 0 t := by dsimp only [dats]
/-- the segment numbers, -/
theorem after_b (c : Dev nD) (t : Fin cfg0.N) : (dats m 0 c).after 1 t = iblk m c 1 t := by dsimp only [dats]
/-- and the two -/
theorem after_w1 (c : Dev nD) (t : Fin cfg0.N) : (dats m 0 c).after 2 t = iblk m c 2 t := by dsimp only [dats]
/-- weight matrices. -/
theorem after_w2 (c : Dev nD) (t : Fin cfg0.N) : (dats m 0 c).after 3 t = iblk m c 3 t := by dsimp only [dats]
/-- The output is left at what its point stores. -/
theorem after_out (c : Dev nD) (t : Fin cfg0.N) : (dats m 0 c).after 4 t = outAt m c t := by dsimp only [dats]

/-! ## The body's obligation -/

/-- What the body finds at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mB t) fullShare ((dats m 0 c).before 1 t d))
    ∗ (∃ d, owns (c : Thread nD τ) (mW1 t) fullShare ((dats m 0 c).before 2 t d))
    ∗ (∃ d, owns (c : Thread nD τ) (mW2 t) fullShare ((dats m 0 c).before 3 t d))
    ∗ (∃ d, owns (c : Thread nD τ) (mO t) fullShare ((dats m 0 c).before 4 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- At a point the body's scratches and buffers. -/
abbrev holdsAt (c : Dev nD) (t : Fin cfg0.N) (out acc : Vec F S16x512 .f32) (s : Vec F S16x1 .f32) (dw : Vec F S2x16x4096 .bf16)
    (dr : Vec F S2x4096x512 .bf16) : sProp 𝕄 :=
  holds c (mX t) (mB t) (mW1 t) (mW2 t) (mO t) mAcc mSum mWt mRow (xAt m c t) (bAt m c t) (w1At m c t) (w2At m c t) out acc s dw dr
/-- What the body leaves at point `t`, by the output and the two running sums. -/
abbrev leavesAt (c : Dev nD) (t : Fin cfg0.N) (out acc : Vec F S16x512 .f32) (s : Vec F S16x1 .f32) : sProp 𝕄 :=
  leaves c (grid0.coords t) (mX t) (mB t) (mW1 t) (mW2 t) (mO t) mAcc mSum mWt mRow (xAt m c t) (bAt m c t) (w1At m c t) (w2At m c t)
    out acc s

/-- The grid's one coordinate is the point's number. -/
theorem coord_val : ∀ t : Fin cfg0.N, (grid0.coords t 0).val = t.val :=
  (by decide +kernel : ∀ t : Fin grid0.N, (grid0.coords t 0).val = t.val)

/-- A slot is named by its number. -/
theorem wtSlot_congr {a b : ℕ} (h : a = b) (ha : a < 2) (hb : b < 2) (d : Vec F S2x16x4096 .bf16) : wtSlot a ha d = wtSlot b hb d := by
  subst h; rfl
/-- Equal slot numbers give equal slots of rows. -/
theorem rowSlot_congr {a b : ℕ} (h : a = b) (ha : a < 2) (hb : b < 2) (d : Vec F S2x4096x512 .bf16) : rowSlot a ha d = rowSlot b hb d := by
  subst h; rfl

/-- What a point leaves is the invariant after it, its inputs as they were, and the output's buffer. -/
theorem leaves_carried (c : Dev nD) (t : Fin cfg0.N) (out : Vec F S16x512 .f32) :
    iprop(leavesAt m c t out (accAfter m c t.val t.isLt) (sumAfter m c t.val t.isLt) ∗ (∃ r, prngReg c r)) ⊢
      (iprop(carried m c t.val t.isLt
        ∗ (owns (c : Thread nD τ) (mX t) fullShare (xAt m c t) ∗ owns (c : Thread nD τ) (mB t) fullShare (bAt m c t)
        ∗ owns (c : Thread nD τ) (mW1 t) fullShare (w1At m c t) ∗ owns (c : Thread nD τ) (mW2 t) fullShare (w2At m c t)
        ∗ owns (c : Thread nD τ) (mO t) fullShare out)) : sProp 𝕄) := by
  unfold leavesAt leaves holds carried
  iintro ⟨⟨%dw, %dr, %he, H1, H2, H3, H4, H5, H6, H7, H8, H9⟩, Hg⟩
  isplitl [H6 H7 H8 H9 Hg]
  · isplitl [H6 H7 H8 H9]
    · iexists dw
      iexists dr
      isplitr
      · ipureintro
        have hc : cur (grid0.coords t) = t.val % 2 := congrArg (· % 2) (coord_val t)
        exact ⟨(wtSlot_congr hc.symm _ _ dw).trans he.1, (rowSlot_congr hc.symm _ _ dr).trans he.2⟩
      isplitl [H6]; · iexact H6
      isplitl [H7]; · iexact H7
      isplitl [H8]; · iexact H8
      iexact H9
    iexact Hg
  isplitl [H1]; · iexact H1
  isplitl [H2]; · iexact H2
  isplitl [H3]; · iexact H3
  isplitl [H4]; · iexact H4
  iexact H5

/-- The inputs' windows are never idle and their blocks are left in place. -/
theorem leaves_x (c : Dev nD) (t : Fin cfg0.N) : (dats m 0 c).leavesExact 0 t = owns (c : Thread nD τ) (mX t) fullShare (xAt m c t) := by
  unfold Dat.leavesExact; rw [show cfg0.idle 0 (grid0.coords t) = false from rfl, after_x]
/-- The segment numbers' buffer is left as staged, -/
theorem leaves_b (c : Dev nD) (t : Fin cfg0.N) : (dats m 0 c).leavesExact 1 t = owns (c : Thread nD τ) (mB t) fullShare (bAt m c t) := by
  unfold Dat.leavesExact; rw [show cfg0.idle 1 (grid0.coords t) = false from rfl, after_b]
/-- and so are the first -/
theorem leaves_w1 (c : Dev nD) (t : Fin cfg0.N) : (dats m 0 c).leavesExact 2 t = owns (c : Thread nD τ) (mW1 t) fullShare (w1At m c t) := by
  unfold Dat.leavesExact; rw [show cfg0.idle 2 (grid0.coords t) = false from rfl, after_w1]
/-- and the second weight matrix's. -/
theorem leaves_w2 (c : Dev nD) (t : Fin cfg0.N) : (dats m 0 c).leavesExact 3 t = owns (c : Thread nD τ) (mW2 t) fullShare (w2At m c t) := by
  unfold Dat.leavesExact; rw [show cfg0.idle 3 (grid0.coords t) = false from rfl, after_w2]
/-- At the last point the output's buffer is left at `outAt`. -/
theorem leaves_out (c : Dev nD) (t : Fin cfg0.N) (h : t.val = 3) :
    (dats m 0 c).leavesExact 4 t = owns (c : Thread nD τ) (mO t) fullShare (outAt m c t) := by
  unfold Dat.leavesExact; rw [live_out t h, after_out]

/-- What a point leaves, with the output's buffer as it was found, is what it owes when the output is idle; -/
theorem post_idle (c : Dev nD) (t : Fin cfg0.N) (h : t.val ≠ 3) (d) :
    iprop(leavesAt m c t ((dats m 0 c).before 4 t d) (accAfter m c t.val t.isLt) (sumAfter m c t.val t.isLt) ∗ (∃ r, prngReg c r)
      ∗ (dats m 0 c).owesAt () t.castSucc) ⊢ (bodyPost m c t : sProp 𝕄) := by
  unfold bodyPost
  rw [show (dats m 0 c).owesAt () t.succ = (dats m 0 c).owesAt () t.castSucc from rfl,
    show (dats m 0 c).Φ t.succ = carried m c t.val t.isLt from rfl, leaves_x, leaves_b, leaves_w1, leaves_w2,
    Dat.leavesExact_idle (dats m 0 c) 4 t (idle_out t h) (noFlush_out t h)]
  iintro ⟨HL, Hg, Ho⟩
  ihave HC := (leaves_carried m c t ((dats m 0 c).before 4 t d)) $$ [HL Hg]
  · isplitl [HL]; · iexact HL
    iexact Hg
  icases HC with ⟨HC, H1, H2, H3, H4, H5⟩
  isplitl [HC]; · iexact HC
  isplitl [Ho]; · iexact Ho
  isplitl [H1]; · iexact H1
  isplitl [H2]; · iexact H2
  isplitl [H3]; · iexact H3
  isplitl [H4]; · iexact H4
  iexists d; iexact H5

/-- and, with the output's buffer at `outAt`, what the last point owes. -/
theorem post_last (c : Dev nD) (t : Fin cfg0.N) (h : t.val = 3) :
    iprop(leavesAt m c t (outAt m c t) (accAfter m c t.val t.isLt) (sumAfter m c t.val t.isLt) ∗ (∃ r, prngReg c r)
      ∗ (dats m 0 c).owesAt () t.castSucc) ⊢ (bodyPost m c t : sProp 𝕄) := by
  unfold bodyPost
  rw [show (dats m 0 c).owesAt () t.succ = (dats m 0 c).owesAt () t.castSucc from rfl,
    show (dats m 0 c).Φ t.succ = carried m c t.val t.isLt from rfl, leaves_x, leaves_b, leaves_w1, leaves_w2, leaves_out m c t h]
  iintro ⟨HL, Hg, Ho⟩
  ihave HC := (leaves_carried m c t (outAt m c t)) $$ [HL Hg]
  · isplitl [HL]; · iexact HL
    iexact Hg
  icases HC with ⟨HC, H1, H2, H3, H4, H5⟩
  isplitl [HC]; · iexact HC
  isplitl [Ho]; · iexact Ho
  isplitl [H1]; · iexact H1
  isplitl [H2]; · iexact H2
  isplitl [H3]; · iexact H3
  isplitl [H4]; · iexact H4
  iexact H5

/-- The body found with its inputs at their blocks holds what its runs ask for. -/
theorem holds_intro (c : Dev nD) (t : Fin cfg0.N) (out acc : Vec F S16x512 .f32) (s : Vec F S16x1 .f32) (dw : Vec F S2x16x4096 .bf16)
    (dr : Vec F S2x4096x512 .bf16) :
    iprop(owns (c : Thread nD τ) (mX t) fullShare (xAt m c t) ∗ owns (c : Thread nD τ) (mB t) fullShare (bAt m c t)
      ∗ owns (c : Thread nD τ) (mW1 t) fullShare (w1At m c t) ∗ owns (c : Thread nD τ) (mW2 t) fullShare (w2At m c t)
      ∗ owns (c : Thread nD τ) (mO t) fullShare out ∗ owns (c : Thread nD τ) mAcc fullShare acc ∗ owns (c : Thread nD τ) mSum fullShare s
      ∗ owns (c : Thread nD τ) mWt fullShare dw ∗ owns (c : Thread nD τ) mRow fullShare dr) ⊢ holdsAt m c t out acc s dw dr := by
  unfold holdsAt holds; exact .rfl

/-- The sums at a later point, over those of the point before. -/
theorem accAfter_pos (c : Dev nD) (n : ℕ) (h : n < cfg0.N) (hz : n ≠ 0) :
    accAfter m c n h = k0_pay7 (accAfter m c (n - 1) (by omega)) (wtAt m c ⟨n - 1, by omega⟩) (rowAt m c ⟨n - 1, by omega⟩) := by
  cases n with
  | zero => exact absurd rfl hz
  | succ n => rfl
/-- After a later point the sum is the point's own over that of the point before. -/
theorem sumAfter_pos (c : Dev nD) (n : ℕ) (h : n < cfg0.N) (hz : n ≠ 0) :
    sumAfter m c n h = sumOf (xAt m c ⟨n, h⟩) (bAt m c ⟨n, h⟩) (w1At m c ⟨n, h⟩) (w2At m c ⟨n, h⟩) (sumAfter m c (n - 1) (by omega)) := by
  cases n with
  | zero => exact absurd rfl hz
  | succ n => rfl
/-- After the first point the accumulator is still its zero, -/
theorem accAfter_zero (c : Dev nD) (n : ℕ) (h : n < cfg0.N) (hz : n = 0) : accAfter m c n h = k0_pay5 := by subst hz; rfl
/-- and the sum is the first point's. -/
theorem sumAfter_zero (c : Dev nD) (n : ℕ) (h : n < cfg0.N) (hz : n = 0) :
    sumAfter m c n h = sumOf (xAt m c ⟨n, h⟩) (bAt m c ⟨n, h⟩) (w1At m c ⟨n, h⟩) (w2At m c ⟨n, h⟩) k0_pay6 := by subst hz; rfl

/-- Before a later point the slot the body reads is the one the point before stored. -/
theorem prv_eq (t : Fin cfg0.N) (hz : t.val ≠ 0) : prv (grid0.coords t) = (t.val - 1) % 2 := by
  have := coord_val t
  show 1 - (grid0.coords t 0).val % 2 = _
  omega

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · have h3 : t.val ≠ 3 := by omega
    unfold bodyPre bodyAt0
    simp only [before0_0_of m (dats m 0 c) (A_eq m c 0) (after_x m c), before0_1_of m (dats m 0 c) (A_eq m c 1) (after_b m c),
      before0_2_of m (dats m 0 c) (A_eq m c 2) (after_w1 m c), before0_3_of m (dats m 0 c) (A_eq m c 3) (after_w2 m c)]
    rw [inv_castSucc m c t, show inv m c t.val (Nat.le_of_lt t.isLt) = Pipeline.ΦA spec0 c from by
      simp only [h0]; rfl, launchInv_eq]
    have hp := fun d => post_idle m c t h3 d
    rw [accAfter_zero m c _ _ h0, sumAfter_zero m c _ _ h0] at hp
    iintro ⟨⟨⟨⟨%acc, HA⟩, ⟨%s, HS⟩, ⟨%dw, HW⟩, ⟨%dr, HR⟩⟩, Hg⟩, Ho, ⟨%d0, H0⟩, ⟨%d1, H1⟩, ⟨%d2, H2⟩, ⟨%d3, H3⟩, ⟨%d4, H4⟩⟩
    iapply (runFirst c (grid0.coords t) (mX t) (hX t) (mB t) (hB t) (mW1 t) (hW1 t) (mW2 t) (hW2 t) (mO t) (hO t) mAcc (Memref.isWhole_whole _)
      mSum (Memref.isWhole_whole _) mWt (Memref.isWhole_whole _) mRow (Memref.isWhole_whole _) (xAt m c t) (bAt m c t) (w1At m c t) (w2At m c t)
      ((isFirst_iff t).mpr h0) (fun h => (isLater_iff t).mp h h0) (fun h => h3 ((isLast_iff t).mp h)) acc s dw dr ((dats m 0 c).before 4 t d4)
      Set.univ (fun _ => bodyPost m c t))
    isplitl [H0 H1 H2 H3 H4 HA HS HW HR]
    · iapply (holds_intro m c t ((dats m 0 c).before 4 t d4) acc s dw dr)
      isplitl [H0]; · iexact H0
      isplitl [H1]; · iexact H1
      isplitl [H2]; · iexact H2
      isplitl [H3]; · iexact H3
      isplitl [H4]; · iexact H4
      isplitl [HA]; · iexact HA
      isplitl [HS]; · iexact HS
      isplitl [HW]; · iexact HW
      iexact HR
    iintro HL
    iapply (hp d4)
    isplitl [HL]; · iexact HL
    isplitl [Hg]; · iexact Hg
    iexact Ho
  · unfold bodyPre bodyAt0
    simp only [before0_0_of m (dats m 0 c) (A_eq m c 0) (after_x m c), before0_1_of m (dats m 0 c) (A_eq m c 1) (after_b m c),
      before0_2_of m (dats m 0 c) (A_eq m c 2) (after_w1 m c), before0_3_of m (dats m 0 c) (A_eq m c 3) (after_w2 m c)]
    rw [inv_castSucc m c t, inv_pos m c _ _ h0]
    unfold carried
    iintro ⟨⟨⟨%dw, %dr, %he, HA, HS, HW, HR⟩, Hg⟩, Ho, ⟨%d0, H0⟩, ⟨%d1, H1⟩, ⟨%d2, H2⟩, ⟨%d3, H3⟩, ⟨%d4, H4⟩⟩
    have ew : wtSlot (prv (grid0.coords t)) (prv_lt _) dw = wtAt m c ⟨t.val - 1, by omega⟩ := (wtSlot_congr (prv_eq t h0) _ _ dw).trans he.1
    have er : rowSlot (prv (grid0.coords t)) (prv_lt _) dr = rowAt m c ⟨t.val - 1, by omega⟩ := (rowSlot_congr (prv_eq t h0) _ _ dr).trans he.2
    by_cases h3 : t.val = 3
    · have hp := post_last m c t h3
      unfold outAt at hp
      rw [accAfter_pos m c _ _ h0, sumAfter_pos m c _ _ h0, ← ew, ← er] at hp
      iapply (runLast c (grid0.coords t) (mX t) (hX t) (mB t) (hB t) (mW1 t) (hW1 t) (mW2 t) (hW2 t) (mO t) (hO t) mAcc (Memref.isWhole_whole _)
        mSum (Memref.isWhole_whole _) mWt (Memref.isWhole_whole _) mRow (Memref.isWhole_whole _) (xAt m c t) (bAt m c t) (w1At m c t) (w2At m c t)
        (fun h => h0 ((isFirst_iff t).mp h)) ((isLater_iff t).mpr h0) ((isLast_iff t).mpr h3) _ _ dw dr ((dats m 0 c).before 4 t d4)
        Set.univ (fun _ => bodyPost m c t))
      isplitl [H0 H1 H2 H3 H4 HA HS HW HR]
      · iapply (holds_intro m c t ((dats m 0 c).before 4 t d4) _ _ dw dr)
        isplitl [H0]; · iexact H0
        isplitl [H1]; · iexact H1
        isplitl [H2]; · iexact H2
        isplitl [H3]; · iexact H3
        isplitl [H4]; · iexact H4
        isplitl [HA]; · iexact HA
        isplitl [HS]; · iexact HS
        isplitl [HW]; · iexact HW
        iexact HR
      iintro HL
      iapply hp
      isplitl [HL]; · iexact HL
      isplitl [Hg]; · iexact Hg
      iexact Ho
    · have hp := fun d => post_idle m c t h3 d
      rw [accAfter_pos m c _ _ h0, sumAfter_pos m c _ _ h0, ← ew, ← er] at hp
      iapply (runMid c (grid0.coords t) (mX t) (hX t) (mB t) (hB t) (mW1 t) (hW1 t) (mW2 t) (hW2 t) (mO t) (hO t) mAcc (Memref.isWhole_whole _)
        mSum (Memref.isWhole_whole _) mWt (Memref.isWhole_whole _) mRow (Memref.isWhole_whole _) (xAt m c t) (bAt m c t) (w1At m c t) (w2At m c t)
        (fun h => h0 ((isFirst_iff t).mp h)) ((isLater_iff t).mpr h0) (fun h => h3 ((isLast_iff t).mp h)) _ _ dw dr ((dats m 0 c).before 4 t d4)
        Set.univ (fun _ => bodyPost m c t))
      isplitl [H0 H1 H2 H3 H4 HA HS HW HR]
      · iapply (holds_intro m c t ((dats m 0 c).before 4 t d4) _ _ dw dr)
        isplitl [H0]; · iexact H0
        isplitl [H1]; · iexact H1
        isplitl [H2]; · iexact H2
        isplitl [H3]; · iexact H3
        isplitl [H4]; · iexact H4
        isplitl [HA]; · iexact HA
        isplitl [HS]; · iexact HS
        isplitl [HW]; · iexact HW
        iexact HR
      iintro HL
      iapply (hp d4)
      isplitl [HL]; · iexact HL
      isplitl [Hg]; · iexact Hg
      iexact Ho

/-- The body's row of the table at point `t` is the body at its slots, -/
theorem defs₀_row (t : Fin cfg0.N) : defs₀ (F := F) .tc cfg0.body (cfg0.bodyArgs t (cfg0.slots t)) = bodyAt0 t := by
  unfold defs₀; rw [Defs.onTc_tc]

/-- so the pipeline's obligation on the body holds at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant at the start, -/
theorem hin (c : Dev nD) : Pipeline.ΦA spec0 c ⊢ (dats m 0 c).Φ 0 := by
  rw [show (dats m 0 c).Φ 0 = Pipeline.ΦA spec0 c from rfl]

/-- and the invariant at the end gives it back. -/
theorem hout (c : Dev nD) : (dats m 0 c).Φ (Fin.last cfg0.N) ⊢ Pipeline.ΦA spec0 c := by
  rw [show (dats m 0 c).Φ (Fin.last cfg0.N) = inv m c cfg0.N le_rfl from rfl,
    inv_pos m c _ _ (by have : cfg0.N = 4 := N_0; omega), launchInv_eq]
  unfold carried
  iintro ⟨⟨%dw, %dr, %he, HA, HS, HW, HR⟩, Hg⟩
  isplitl [HA HS HW HR]
  · isplitl [HA]; · iexists _; iexact HA
    isplitl [HS]; · iexists _; iexact HS
    isplitl [HW]; · iexists _; iexact HW
    iexists _; iexact HR
  iexact Hg

/-! ## The run -/

set_option backward.isDefEq.respectTransparency.types false in
/-- Every weakly fair execution ends with the pipeline's arrays as the proof data has them, every other buffer as the region
    found it, and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends in the frame's post: each array as the pipeline leaves it. -/
theorem run_post : θ_run defs (onTc (τ := τ) (main (F := F))) (s₀ m ρ) (Pipeline.FramePost cfgs (dats m) 0 (V m)) :=
  (θ_run defs _ _).mono (fun _ h => h.1) (run_quiet m ρ)

/-- The frame: the arguments end unchanged and every counter at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_quiet m ρ))

/-! ## The output array after the run -/

/-- The grid's last point. -/
abbrev lastPt : Fin cfg0.N := ⟨3, lt_of_lt_of_eq (by decide) N_0.symm⟩

/-- What the output array ends as: what the last point stores. -/
def final (c : Dev nD) : Buf (Elt F) ((c : Thread nD τ).loc main_v5) := outAt m c lastPt

/-- The output's one block is its array. -/
theorem idx_out : ∀ t : Fin cfg0.N, win0_4.index t (0 : Fin 2) = 0 ∧ win0_4.index t (1 : Fin 2) = 0 :=
  (by decide +kernel : ∀ t : Fin grid0.N, _)

/-- What the flushing point writes back is the array's one block of `final`. -/
theorem flushed_out (c : Dev nD) (t : Fin cfg0.N) (hf : (cfg0.win 4).flush t = true) :
    (dats m 0 c).flushed 4 t = ((cfg0.win 4).blk t).view.read (Elt F) (final m c) := by
  have ht : t.val = 3 := by
    by_contra h
    rw [noFlush_out t h] at hf
    exact Bool.noConfusion hf
  obtain rfl : t = lastPt := Fin.ext ht
  show (cfg0.win 4).cut (grid0.coords lastPt) ((dats m 0 c).after 4 lastPt) = _
  rw [after_out]
  obtain ⟨e0, e1⟩ := idx_out lastPt
  funext y
  show outAt m c lastPt ((cfg0.win 4).xinj (grid0.coords lastPt) y) = outAt m c lastPt (((cfg0.win 4).blk lastPt).view.emb y)
  congr 1
  funext a; apply Fin.ext
  match a with
  | ⟨0, _⟩ =>
    show (y 0).val = win0_4.index lastPt (0 : Fin 2) * 16 + 1 * (y 0).val
    omega
  | ⟨1, _⟩ =>
    show (y 1).val = win0_4.index lastPt (1 : Fin 2) * 512 + 1 * (y 1).val
    omega

/-- Every index of the array is in that block. -/
theorem covered_out (i : S16x512.Idx) : ∃ t : Fin cfg0.N, (cfg0.win 4).flush t = true ∧ i ∈ ((cfg0.win 4).blk t).view.set := by
  refine ⟨lastPt, (flush0_4 lastPt).mpr rfl, ?_⟩
  show i ∈ ((View.whole main_v5).slice (win0_4.rect lastPt)).set
  rw [View.set_slice_whole, Rect.mem_set_unit]
  obtain ⟨e0, e1⟩ := idx_out lastPt
  intro a
  match a with
  | ⟨0, _⟩ =>
    have h := (i 0).isLt
    show win0_4.index lastPt (0 : Fin 2) * 16 ≤ (i 0).val ∧ (i 0).val < win0_4.index lastPt (0 : Fin 2) * 16 + 16
    rw [e0]; exact ⟨by omega, by rw [Nat.zero_mul, Nat.zero_add]; exact h⟩
  | ⟨1, _⟩ =>
    have h := (i 1).isLt
    show win0_4.index lastPt (1 : Fin 2) * 512 ≤ (i 1).val ∧ (i 1).val < win0_4.index lastPt (1 : Fin 2) * 512 + 512
    rw [e1]; exact ⟨by omega, by rw [Nat.zero_mul, Nat.zero_add]; exact h⟩

/-- So the output array ends as `final`. -/
theorem final_out (c : Dev nD) : (dats m 0 c).arrAt 4 cfg0.N = final m c :=
  (dats m 0 c).arrAt_eq_of_cover 4 _ (fun t hf => flushed_out m c t hf) covered_out

/-- The run with the output named, the arguments unchanged. -/
theorem run_value : θ_run defs (onTc (τ := τ) (main (F := F))) ⟨m, fun _ => 0, ρ⟩ fun r => ∀ c : Dev nD,
      r.2.mem ((c : Thread nD τ).loc main_v5) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final_out m c), h.2 c⟩)
    (θ_run_and (run_post m ρ) (frame_of m ρ (dats m) (A_eq m) (run_post m ρ)))

end Cert.Pool

end
-- ==== Proof.Pool.Same.lean ====
/- The kernel as compiled and the kernel read over the extended reals are one program text printed twice; their body tables are
   equal row by row, so a run of the one is a run of the other at the same values. -/
module

public import proofs.«01_k».proof.Defs
public import proofs.«01_k».proof.Proof.Gen.Kernel
public import proofs.«01_k».proof.Proof.Pool.Frame

@[expose] public section

namespace Cert.Pool

open Idealize.ShloMosaic Idealize.SL.Sem

variable {F : FTy → Type} [FloatOps F] [Cert.Kernel.Facts] [Cert.KernelIdeal.Facts]

/-- The two body tables agree row by row, -/
theorem bodies_eq : Cert.Kernel.defs₀ (F := F) = Cert.KernelIdeal.defs₀ (F := F) := by
  funext p l a
  cases p with
  | tc =>
    match l, a with
    | 0, (t, s) => exact rfl
  | scScalar _ => rfl
  | scVector _ _ => rfl

/-- so with each region's own entries they are one table. -/
theorem table_eq : Cert.Kernel.defs (F := F) = Cert.KernelIdeal.defs (F := F) :=
  congrArg (fun d => Pipeline.defs Cert.KernelIdeal.pcfgs d) (bodies_eq (F := F))

omit [Cert.Kernel.Facts] [Cert.KernelIdeal.Facts] in
/-- The compiled kernel's frame, off the frame proved at any values. -/
theorem frame_compiled : Cert.quiescent_Kernel (hKernel := Cert.Kernel.Gen.facts) := fun m ρ _ => by
  have h := frame_kernel m ρ
  rw [← table_eq] at h
  exact h

end Cert.Pool

end
-- ==== Proof.Pool.Payload.lean ====
/- What one point of the pooling kernel computes, read at an index over the extended reals. -/
module

public import proofs.«01_k».proof.Proof.Pool.Runs
public import Idealize.ShloMosaic.Lib.Pointwise

@[expose] public section

set_option maxRecDepth 16384

noncomputable section

namespace Cert.Pool

open Cert.KernelIdeal Cert.KernelIdeal.Gen
open Idealize.ShloMosaic

/-- The accumulator is set to zero, -/
theorem pay5_at (s : Fin 16) (d : Fin 512) : k0_pay5 (F := Ideal) (ValueIdx.ix2 s d) = 0 := by
  pointwise [k0_pay5]

/-- and so is the running sum. -/
theorem pay6_at (s : Fin 16) : k0_pay6 (F := Ideal) (ValueIdx.ix2 s 0) = 0 := by
  pointwise [k0_pay6]

/-- The rows are stored as they are. -/
theorem pay8_at (x : Vec Ideal S4096x512 .f32) (j : Fin 4096) (d : Fin 512) :
    k0_pay8 x (ValueIdx.ix3 0 j d) = x (ValueIdx.ix2 j d) := by
  pointwise [k0_pay8]
  rfl

/-- The mask compares a segment number with the segment of its row. -/
theorem pay9_at (b : Vec Ideal S1x1x4096 .i32) (s : Fin 16) (j : Fin 4096) :
    k0_pay9 (F := Ideal) b (ValueIdx.ix2 s j) = IntOp.cmpi .eq (b (ValueIdx.ix3 0 0 j)) (BitVec.ofNat 32 s.val) := by
  pointwise [k0_pay9]
  rfl

/-- The exponential of a row's score, the same for every segment. -/
theorem expOf_at (x : Vec Ideal S4096x512 .f32) (w1 : Vec Ideal S512x256 .bf16) (w2 : Vec Ideal S256x1 .bf16) (s : Fin 16) (j : Fin 4096) :
    expOf x w1 w2 (ValueIdx.ix2 s j) = Ideal.exp (∑ h : Fin 256, Ideal.tanh (∑ k : Fin 512, x (ValueIdx.ix2 j k) * w1 (ValueIdx.ix2 k h)) * w2 (ValueIdx.ix2 h 0)) := by
  pointwise [expOf, k0_pay10, k0_pay8]
  rfl

/-- A weight is its exponential where the mask is set, else zero. -/
theorem pay1_at (m : IVec S16x4096 1) (e : FVec Ideal S16x4096 .f32) (s : Fin 16) (j : Fin 4096) :
    k0_pay1 m (Scalar.ofBits .f32 0x00000000#32) e (ValueIdx.ix2 s j) = Scalar.select (m (ValueIdx.ix2 s j)) (e (ValueIdx.ix2 s j)) 0 := by
  pointwise [k0_pay1]

/-- A point's weights are added to the running sum. -/
theorem pay2_at (m : IVec S16x4096 1) (e : FVec Ideal S16x4096 .f32) (v : Vec Ideal S16x1 .f32) (s : Fin 16) :
    k0_pay2 m (Scalar.ofBits .f32 0x00000000#32) e v (ValueIdx.ix2 s 0)
      = v (ValueIdx.ix2 s 0) + ∑ j : Fin 4096, Scalar.select (m (ValueIdx.ix2 s j)) (e (ValueIdx.ix2 s j)) 0 := by
  pointwise [k0_pay2, k0_pay1]
  rfl

/-- A point's weights are stored as they are. -/
theorem pay3_at (m : IVec S16x4096 1) (e : FVec Ideal S16x4096 .f32) (s : Fin 16) (j : Fin 4096) :
    k0_pay3 m (Scalar.ofBits .f32 0x00000000#32) e (ValueIdx.ix3 0 s j) = Scalar.select (m (ValueIdx.ix2 s j)) (e (ValueIdx.ix2 s j)) 0 := by
  pointwise [k0_pay3, k0_pay1]
  rfl

/-- The product of the stored weights and rows is added to the accumulator. -/
theorem pay7_at (acc : Vec Ideal S16x512 .f32) (w : Vec Ideal S1x16x4096 .bf16) (r : Vec Ideal S1x4096x512 .bf16) (s : Fin 16) (d : Fin 512) :
    k0_pay7 acc w r (ValueIdx.ix2 s d) = acc (ValueIdx.ix2 s d) + ∑ j : Fin 4096, w (ValueIdx.ix3 0 s j) * r (ValueIdx.ix3 0 j d) := by
  pointwise [k0_pay7]
  rfl

/-- The result: the accumulator and the last product, over the sum plus the small number. -/
theorem pay4_at (acc : Vec Ideal S16x512 .f32) (w : Vec Ideal S1x16x4096 .bf16) (r : Vec Ideal S1x4096x512 .bf16) (v : Vec Ideal S16x1 .f32) (s : Fin 16) (d : Fin 512) :
    k0_pay4 acc w r v (ValueIdx.ix2 s d) = Ideal.div (acc (ValueIdx.ix2 s d) + ∑ j : Fin 4096, w (ValueIdx.ix3 0 s j) * r (ValueIdx.ix3 0 j d))
      (v (ValueIdx.ix2 s 0) + Ideal.ofBits .f32 0x24E69595#32) := by
  pointwise [k0_pay4]
  rfl

end Cert.Pool

end
-- ==== Proof.Pool.Blocks.lean ====
/- What the pooling kernel's windows hold at each point, as elements of the launch's arguments. -/
module

public import proofs.«01_k».proof.Proof.Pool.Frame
public import proofs.«01_k».proof.Proof.Pool.Payload
public import Idealize.ShloMosaic.Lib.StableHlo.ReadAt

@[expose] public section

set_option maxRecDepth 16384

noncomputable section

namespace Cert.Pool

open Cert.KernelIdeal Cert.KernelIdeal.Gen
open Idealize.ShloMosaic Idealize.ShloMosaic.TcCoe

variable (m : (ℓ : Loc nD τ sig) → Buf (Elt Ideal) ℓ) (c : Dev nD)

/-- The rows, -/
abbrev xs : Vec Ideal S16384x512 .f32 := m ((c : Thread nD τ).loc main_arg0)
/-- their segment numbers, -/
abbrev bs : Vec Ideal S16384 .i32 := m ((c : Thread nD τ).loc main_arg1)
/-- and the two weight matrices, as launched. -/
abbrev w1s : Vec Ideal S256x512 .f32 := m ((c : Thread nD τ).loc main_arg2)
/-- The second weight matrix, as launched. -/
abbrev w2s : Vec Ideal S1x256 .f32 := m ((c : Thread nD τ).loc main_arg3)

/-- Row `j` of point `t`'s block, as a row of the argument. -/
abbrev row (t : Fin cfg0.N) (j : Fin 4096) : Fin 16384 :=
  ⟨t.val * 4096 + j.val, by have h : t.val < 4 := t.isLt; have := j.isLt; omega⟩

/-- The segment numbers as the launch finds them: four blocks of one row. -/
theorem V_batch (t : Fin 4) (j : Fin 4096) :
    (V m c main_v0 : Vec Ideal S4x1x4096 .i32) (ValueIdx.ix3 t 0 j) = bs m c (ValueIdx.ix1 (row t j)) := by
  unfold V
  after_reads_at
  rfl

/-- The first weight matrix as the launch finds it, transposed. -/
theorem V_w1 (k : Fin 512) (h : Fin 256) :
    (V m c main_v2 : Vec Ideal S512x256 .bf16) (ValueIdx.ix2 k h) = w1s m c (ValueIdx.ix2 h k) := by
  unfold V
  after_reads_at
  rfl

/-- The second weight matrix as the launch finds it, transposed. -/
theorem V_w2 (h : Fin 256) :
    (V m c main_v4 : Vec Ideal S256x1 .bf16) (ValueIdx.ix2 h 0) = w2s m c (ValueIdx.ix2 0 h) := by
  unfold V
  after_reads_at
  rfl

/-- The rows' window is at block `t`. -/
theorem index0 : ∀ t : Fin cfg0.N, win0_0.index t 0 = t.val ∧ win0_0.index t 1 = 0 :=
  (by decide +kernel : ∀ t : Fin grid0.N, win0_0.index t 0 = t.val ∧ win0_0.index t 1 = 0)
/-- The segment numbers' window is at block `t`. -/
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
/-- The first weight matrix's window is whole at every point. -/
theorem index2 : ∀ t : Fin cfg0.N, win0_2.index t 0 = 0 ∧ win0_2.index t 1 = 0 :=
  (by decide +kernel : ∀ t : Fin grid0.N, win0_2.index t 0 = 0 ∧ win0_2.index t 1 = 0)
/-- The second weight matrix's window is whole at every point. -/
theorem index3 : ∀ t : Fin cfg0.N, win0_3.index t 0 = 0 ∧ win0_3.index t 1 = 0 :=
  (by decide +kernel : ∀ t : Fin grid0.N, win0_3.index t 0 = 0 ∧ win0_3.index t 1 = 0)

/-- The block of rows at a point: its rows of the argument. -/
theorem xAt_at (t : Fin cfg0.N) (j : Fin 4096) (d : Fin 512) : xAt m c t (ValueIdx.ix2 j d) = xs m c (ValueIdx.ix2 (row t j) d) := by
  refine Eq.trans ?_ (congrFun (V_main_arg0 m c) _)
  unfold xAt iblk
  rw [View.read_apply]
  show V m c main_arg0 _ = V m c main_arg0 _
  congr 1
  funext a
  apply Fin.ext
  match a with
  | ⟨0, _⟩ => show win0_0.index t 0 * 4096 + 1 * j.val = t.val * 4096 + j.val; rw [(index0 t).1]; omega
  | ⟨1, _⟩ => show win0_0.index t 1 * 512 + 1 * d.val = d.val; rw [(index0 t).2]; omega

/-- Their segment numbers. -/
theorem bAt_at (t : Fin cfg0.N) (j : Fin 4096) : bAt m c t (ValueIdx.ix3 0 0 j) = bs m c (ValueIdx.ix1 (row t j)) := by
  rw [← V_batch m c t j]
  unfold bAt iblk
  rw [View.read_apply]
  show V m c main_v0 _ = V m c main_v0 _
  congr 1
  funext a
  apply Fin.ext
  match a with
  | ⟨0, _⟩ => show win0_1.index t 0 * 1 + 1 * 0 = t.val; rw [(index1 t).1]; omega
  | ⟨1, _⟩ => show win0_1.index t 1 * 1 + 1 * 0 = 0; rw [(index1 t).2.1]
  | ⟨2, _⟩ => show win0_1.index t 2 * 4096 + 1 * j.val = j.val; rw [(index1 t).2.2]; omega

/-- The first weight matrix, whole at every point and transposed. -/
theorem w1At_at (t : Fin cfg0.N) (k : Fin 512) (h : Fin 256) : w1At m c t (ValueIdx.ix2 k h) = w1s m c (ValueIdx.ix2 h k) := by
  rw [← V_w1 m c k h]
  unfold w1At iblk
  rw [View.read_apply]
  show V m c main_v2 _ = V m c main_v2 _
  congr 1
  funext a
  apply Fin.ext
  match a with
  | ⟨0, _⟩ => show win0_2.index t 0 * 512 + 1 * k.val = k.val; rw [(index2 t).1]; omega
  | ⟨1, _⟩ => show win0_2.index t 1 * 256 + 1 * h.val = h.val; rw [(index2 t).2]; omega

/-- The second likewise. -/
theorem w2At_at (t : Fin cfg0.N) (h : Fin 256) : w2At m c t (ValueIdx.ix2 h 0) = w2s m c (ValueIdx.ix2 0 h) := by
  rw [← V_w2 m c h]
  unfold w2At iblk
  rw [View.read_apply]
  show V m c main_v4 _ = V m c main_v4 _
  congr 1
  funext a
  apply Fin.ext
  match a with
  | ⟨0, _⟩ => show win0_3.index t 0 * 256 + 1 * h.val = h.val; rw [(index3 t).1]; omega
  | ⟨1, _⟩ => show win0_3.index t 1 * 1 + 1 * 0 = 0; rw [(index3 t).2]

end Cert.Pool

end
-- ==== Proof.Pool.Weighted.lean ====
/- The mathematics of the pooling over the extended reals: a weighted sum divided by the sum of its weights is the sum of the
   rows each times its share; nothing is asked of the rows. -/
module

public import Idealize.ShloMosaic.Lib.IdealHost
public import Idealize.ShloMosaic.PureOps.Ideal.Laws

@[expose] public section

noncomputable section

namespace Cert.Pool

open Idealize.ShloMosaic

/-- Division by anything but zero is the product with the inverse. -/
theorem div_eq {a T : EReal} (hT : T ≠ 0) : Ideal.div a T = a * T⁻¹ := if_neg hT

/-- An exponential is not negative, -/
theorem exp_nonneg (a : EReal) : 0 ≤ Ideal.exp a := by
  induction a with
  | bot => exact le_refl _
  | top => exact le_top
  | coe r => exact EReal.coe_nonneg.mpr (Real.exp_pos r).le

/-- The inverse of a positive number is not negative -/
theorem inv_nonneg {T : EReal} (hT : 0 < T) : 0 ≤ T⁻¹ := EReal.inv_nonneg_of_nonneg hT.le

/-- and is finite. -/
theorem inv_ne_top {T : EReal} (hT : 0 < T) : T⁻¹ ≠ ⊤ := by
  induction T with
  | bot => exact absurd hT (by simp)
  | top => simp
  | coe r => rw [← EReal.coe_inv]; exact EReal.coe_ne_top _

/-- A finite factor that is not negative goes into a sum of any terms. -/
theorem sum_mul {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- The weights of the rows that are in, zero for the others. -/
def kept {N : ℕ} (p : Fin N → Prop) [DecidablePred p] (e : Fin N → EReal) (n : Fin N) : EReal := if p n then e n else 0

/-- The weighted sum of the rows that are in, divided by `T`, is the sum of those rows each times its weight over `T`. -/
theorem weighted {N : ℕ} (p : Fin N → Prop) [DecidablePred p] (e x : Fin N → EReal) {T : EReal} (hT : 0 < T) :
    Ideal.div (∑ n, kept p e n * x n) T = ∑ n, if p n then x n * Ideal.div (e n) T else 0 := by
  rw [div_eq hT.ne', sum_mul _ _ (inv_nonneg hT) (inv_ne_top hT)]
  refine Finset.sum_congr rfl fun n _ => ?_
  unfold kept
  split
  · rw [div_eq hT.ne', mul_comm (e n), mul_assoc]
  · rw [zero_mul, zero_mul]

/-- The sum of weights plus a positive number is positive. -/
theorem total_pos {N : ℕ} (p : Fin N → Prop) [DecidablePred p] (e : Fin N → EReal) (he : ∀ n, 0 ≤ e n) {ε : EReal} (hε : 0 < ε) :
    0 < (∑ n, kept p e n) + ε :=
  lt_of_lt_of_le hε (le_add_of_nonneg_left (Finset.sum_nonneg fun n _ => by unfold kept; split; exacts [he n, le_refl _]))

/-- The number added to a sum of weights, the float nearest to 1e-16, is a positive real. -/
theorem guard_eq : ∃ r : ℝ, 0 < r ∧ Ideal.ofBits .f32 0x24E69595#32 = (r : EReal) := by
  refine ⟨_, ?_, by simp [Ideal.ofBits, Ideal.ieee]; rfl⟩
  norm_num

/-- It is positive. -/
theorem guard_pos : (0 : EReal) < Ideal.ofBits .f32 0x24E69595#32 := by
  obtain ⟨r, h, e⟩ := guard_eq
  rw [e]
  exact EReal.coe_pos.mpr h

end Cert.Pool

end
-- ==== Proof.Pool.Value.lean ====
/- The pooling kernel's result at an index over the extended reals, in closed form: the sum of the rows of a segment, each times
   the exponential of its score, divided by the sum of those exponentials plus 1e-16. -/
module

public import proofs.«01_k».proof.Proof.Pool.Blocks
public import proofs.«01_k».proof.Proof.Pool.Weighted

@[expose] public section

set_option maxRecDepth 16384

noncomputable section

namespace Cert.Pool

open Cert.KernelIdeal Cert.KernelIdeal.Gen
open Idealize.ShloMosaic Idealize.ShloMosaic.TcCoe

/-- The score of row `n`: the second layer of the tanh of the first. -/
def score (x : FVec Ideal S16384x512 .f32) (w1 : FVec Ideal S256x512 .f32) (w2 : FVec Ideal S1x256 .f32) (n : Fin 16384) : EReal :=
  ∑ h : Fin 256, Ideal.tanh (∑ k : Fin 512, x (ValueIdx.ix2 n k) * w1 (ValueIdx.ix2 h k)) * w2 (ValueIdx.ix2 0 h)

/-- Row `n` is of segment `s`. -/
abbrev inSeg (b : IVec S16384 32) (s : Fin 16) (n : Fin 16384) : Prop := b (ValueIdx.ix1 n) = BitVec.ofNat 32 s.val

/-- The exponential of row `n`'s score. -/
abbrev weight (x : FVec Ideal S16384x512 .f32) (w1 : FVec Ideal S256x512 .f32) (w2 : FVec Ideal S1x256 .f32) (n : Fin 16384) : EReal :=
  Ideal.exp (score x w1 w2 n)

/-- The pooled entry of segment `s`, column `d`. -/
def pooled (x : FVec Ideal S16384x512 .f32) (b : IVec S16384 32) (w1 : FVec Ideal S256x512 .f32) (w2 : FVec Ideal S1x256 .f32)
    (s : Fin 16) (d : Fin 512) : EReal :=
  Ideal.div (∑ n, kept (inSeg b s) (weight x w1 w2) n * x (ValueIdx.ix2 n d))
    ((∑ n, kept (inSeg b s) (weight x w1 w2) n) + Ideal.ofBits .f32 0x24E69595#32)

/-- A test of two words selects as the test decides. -/
theorem select_eq_ite (a b : BitVec 32) (u v : EReal) : Scalar.select (IntOp.cmpi .eq a b) u v = if a = b then u else v := by
  by_cases h : a = b
  · subst h; simp [IntOp.cmpi, Scalar.select]
  · rw [if_neg h]
    simp [IntOp.cmpi, Scalar.select, beq_eq_false_iff_ne.mpr h]

variable (m : (ℓ : Loc nD τ sig) → Buf (Elt Ideal) ℓ) (c : Dev nD)

/-- The weights a point forms are those of its rows that are of the segment, zero for the rest. -/
theorem select_at (t : Fin cfg0.N) (s : Fin 16) (j : Fin 4096) :
    Scalar.select (k0_pay9 (F := Ideal) (bAt m c t) (ValueIdx.ix2 s j)) (expOf (xAt m c t) (w1At m c t) (w2At m c t) (ValueIdx.ix2 s j)) 0
      = kept (inSeg (bs m c) s) (weight (xs m c) (w1s m c) (w2s m c)) (row t j) := by
  rw [pay9_at, expOf_at, select_eq_ite, bAt_at]
  simp only [xAt_at, w1At_at, w2At_at]
  rfl

/-- The weights a point stores. -/
theorem wtAt_at (t : Fin cfg0.N) (s : Fin 16) (j : Fin 4096) :
    wtAt m c t (ValueIdx.ix3 0 s j) = kept (inSeg (bs m c) s) (weight (xs m c) (w1s m c) (w2s m c)) (row t j) :=
  (pay3_at _ _ s j).trans (select_at m c t s j)

/-- The rows a point stores. -/
theorem rowAt_at (t : Fin cfg0.N) (j : Fin 4096) (d : Fin 512) : rowAt m c t (ValueIdx.ix3 0 j d) = xs m c (ValueIdx.ix2 (row t j) d) :=
  (pay8_at _ j d).trans (xAt_at m c t j d)

/-- The running sum after a point, from the one before it. -/
theorem sumOf_at (t : Fin cfg0.N) (v : Vec Ideal S16x1 .f32) (s : Fin 16) :
    sumOf (xAt m c t) (bAt m c t) (w1At m c t) (w2At m c t) v (ValueIdx.ix2 s 0)
      = v (ValueIdx.ix2 s 0) + ∑ j : Fin 4096, kept (inSeg (bs m c) s) (weight (xs m c) (w1s m c) (w2s m c)) (row t j) :=
  (pay2_at _ _ v s).trans (congrArg (v (ValueIdx.ix2 s 0) + ·) (Finset.sum_congr rfl fun j _ => select_at m c t s j))

/-- The product a point adds, of its weights and its rows. -/
theorem part_at (t : Fin cfg0.N) (s : Fin 16) (d : Fin 512) :
    ∑ j : Fin 4096, wtAt m c t (ValueIdx.ix3 0 s j) * rowAt m c t (ValueIdx.ix3 0 j d)
      = ∑ j : Fin 4096, kept (inSeg (bs m c) s) (weight (xs m c) (w1s m c) (w2s m c)) (row t j) * xs m c (ValueIdx.ix2 (row t j) d) :=
  Finset.sum_congr rfl fun j _ => by rw [wtAt_at, rowAt_at]

/-- A sum over all rows, point by point. -/
theorem sum_rows (f : Fin 16384 → EReal) :
    ∑ n, f n = 0 + (∑ j, f (row t0_0 j)) + (∑ j, f (row t0_1 j)) + (∑ j, f (row t0_2 j)) + ∑ j, f (row t0_3 j) := by
  rw [Fin.sum_univ_tiles 4 4096 rfl, Fin.sum_univ_four, zero_add]
  rfl

/-- One term of the numerator of segment `s`, column `d`. -/
abbrev term (s : Fin 16) (d : Fin 512) (n : Fin 16384) : EReal :=
  kept (inSeg (bs m c) s) (weight (xs m c) (w1s m c) (w2s m c)) n * xs m c (ValueIdx.ix2 n d)

/-- The accumulator starts at zero, -/
theorem acc_zero_at (h : 0 < cfg0.N) (s : Fin 16) (d : Fin 512) : accAfter m c 0 h (ValueIdx.ix2 s d) = 0 := pay5_at s d

/-- and each point adds the product of the point before it. -/
theorem acc_succ_at (n : ℕ) (h : n + 1 < cfg0.N) (s : Fin 16) (d : Fin 512) :
    accAfter m c (n + 1) h (ValueIdx.ix2 s d)
      = accAfter m c n (Nat.lt_of_succ_lt h) (ValueIdx.ix2 s d) + ∑ j, term m c s d (row ⟨n, Nat.lt_of_succ_lt h⟩ j) :=
  (pay7_at _ _ _ s d).trans (congrArg (_ + ·) (part_at m c ⟨n, Nat.lt_of_succ_lt h⟩ s d))

/-- The running sum of weights starts with the first point's, -/
theorem sum_zero_at (h : 0 < cfg0.N) (s : Fin 16) :
    sumAfter m c 0 h (ValueIdx.ix2 s 0)
      = 0 + ∑ j : Fin 4096, kept (inSeg (bs m c) s) (weight (xs m c) (w1s m c) (w2s m c)) (row ⟨0, h⟩ j) :=
  (sumOf_at m c ⟨0, h⟩ _ s).trans (congrArg (· + _) (pay6_at s))

/-- and each point adds its own. -/
theorem sum_succ_at (n : ℕ) (h : n + 1 < cfg0.N) (s : Fin 16) :
    sumAfter m c (n + 1) h (ValueIdx.ix2 s 0)
      = sumAfter m c n (Nat.lt_of_succ_lt h) (ValueIdx.ix2 s 0)
        + ∑ j : Fin 4096, kept (inSeg (bs m c) s) (weight (xs m c) (w1s m c) (w2s m c)) (row ⟨n + 1, h⟩ j) :=
  sumOf_at m c ⟨n + 1, h⟩ _ s

/-- The kernel's result. -/
theorem final_at (s : Fin 16) (d : Fin 512) :
    final m c (ValueIdx.ix2 s d) = pooled (xs m c) (bs m c) (w1s m c) (w2s m c) s d := by
  refine (pay4_at _ _ _ _ s d).trans ?_
  rw [part_at]
  unfold pooled
  rw [sum_rows, sum_rows (fun n => kept _ _ n)]
  rw [sum_succ_at m c 2, sum_succ_at m c 1, sum_succ_at m c 0, sum_zero_at, acc_succ_at m c 2, acc_succ_at m c 1, acc_succ_at m c 0, acc_zero_at]
  rfl

end Cert.Pool

end
-- ==== Proof.Pool.Host.lean ====
/- The host operations the pooling's two references share, read at an index over the extended reals: a sum of rows into
   segments, and the row of a table each segment number names. -/
module

public import Idealize.ShloMosaic.PureOps.Ideal.Laws
public import Idealize.ShloMosaic.Lib.Routing.OpsPair

@[expose] public section

noncomputable section

namespace Cert.Pool.Host

open Idealize.ShloMosaic Idealize.ShloMosaic.ValueIdx

/-- The dimension numbers of a sum of `N` rows of `D` numbers into `B` segments. -/
abbrev segDims (B D N : ℕ) (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

section
variable {B D N : ℕ} (wf : ScatterDims.WF ⟨2, ![B, D]⟩ ⟨2, ![N, 1]⟩ ⟨2, ![N, D]⟩ [1] [0] [0] 1)

/-- A row starts at the segment its number names, -/
theorem seg_start0 {w : ℕ} (idx : IVec ⟨2, ![N, 1]⟩ w) (n : Fin N) (e : Fin D) :
    (segDims B D N wf).start (ix2 n e) idx 0 = (idx (ix2 n 0)).toInt := by
  unfold ScatterDims.start
  rw [dif_pos (List.mem_singleton.2 rfl)]
  refine congrArg (fun i => (idx i).toInt) (funext fun a => Fin.ext ?_)
  match a with
  | ⟨0, _⟩ => rfl
  | ⟨1, _⟩ => rfl

/-- at its own column. -/
theorem seg_start1 {w : ℕ} (idx : IVec ⟨2, ![N, 1]⟩ w) (n : Fin N) (e : Fin D) :
    (segDims B D N wf).start (ix2 n e) idx 1 = 0 := by
  unfold ScatterDims.start
  exact dif_neg (by simp)

/-- Within its row an entry is at offset zero along the segments -/
theorem seg_window0 (n : Fin N) (e : Fin D) : (segDims B D N wf).window (ix2 n e) 0 = 0 := rfl
/-- and at its own column. -/
theorem seg_window1 (n : Fin N) (e : Fin D) : (segDims B D N wf).window (ix2 n e) 1 = e.val := rfl

/-- An entry of a row lands at `(s, c)` exactly when the row's number, read signed, is `s` and the entry is its column `c`; a
    number that is no segment's lands nowhere. -/
theorem seg_lands {w : ℕ} (idx : IVec ⟨2, ![N, 1]⟩ w) (n : Fin N) (e c : Fin D) (s : Fin B) :
    (segDims B D N wf).resultIdx? (ix2 n e) idx = some (ix2 s c) ↔ (idx (ix2 n 0)).toInt = s.val ∧ e = c := by
  have hs := s.isLt
  have he := e.isLt
  unfold ScatterDims.resultIdx?
  split
  · next h =>
    have h0 := h 0
    rw [seg_start0, seg_window0] at h0
    constructor
    · intro q
      have q0 := congrArg Fin.val (congrFun (Option.some.inj q) 0)
      have q1 := congrArg Fin.val (congrFun (Option.some.inj q) 1)
      change ((segDims B D N wf).start (ix2 n e) idx 0 + ((segDims B D N wf).window (ix2 n e) 0 : ℤ)).toNat = s.val at q0
      change ((segDims B D N wf).start (ix2 n e) idx 1 + ((segDims B D N wf).window (ix2 n e) 1 : ℤ)).toNat = c.val at q1
      rw [seg_start0, seg_window0] at q0
      rw [seg_start1, seg_window1] at q1
      exact ⟨by omega, Fin.ext (by omega)⟩
    · rintro ⟨q, rfl⟩
      refine congrArg some (funext fun a => Fin.ext ?_)
      match a with
      | ⟨0, _⟩ =>
        change ((segDims B D N wf).start (ix2 n e) idx 0 + ((segDims B D N wf).window (ix2 n e) 0 : ℤ)).toNat = s.val
        rw [seg_start0, seg_window0, q]
        omega
      | ⟨1, _⟩ =>
        change ((segDims B D N wf).start (ix2 n e) idx 1 + ((segDims B D N wf).window (ix2 n e) 1 : ℤ)).toNat = e.val
        rw [seg_start1, seg_window1]
        omega
  · next h =>
    refine ⟨fun q => (nomatch q), fun ⟨q, _⟩ => absurd (fun a => ?_) h⟩
    match a with
    | ⟨0, _⟩ =>
      change 0 ≤ (segDims B D N wf).start (ix2 n e) idx 0 + ((segDims B D N wf).window (ix2 n e) 0 : ℤ)
        ∧ (segDims B D N wf).start (ix2 n e) idx 0 + ((segDims B D N wf).window (ix2 n e) 0 : ℤ) < (B : ℤ)
      rw [seg_start0, seg_window0, q]
      omega
    | ⟨1, _⟩ =>
      change 0 ≤ (segDims B D N wf).start (ix2 n e) idx 1 + ((segDims B D N wf).window (ix2 n e) 1 : ℤ)
        ∧ (segDims B D N wf).start (ix2 n e) idx 1 + ((segDims B D N wf).window (ix2 n e) 1 : ℤ) < (D : ℤ)
      rw [seg_start1, seg_window1]
      omega

/-- The sum of rows into segments at `(s, c)`: what was there, plus column `c` of the rows whose number is `s`. -/
theorem seg_sum {φ : FTy} (x : FVec Ideal ⟨2, ![B, D]⟩ φ) (idx : IVec ⟨2, ![N, 1]⟩ 32) (u : FVec Ideal ⟨2, ![N, D]⟩ φ)
    (s : Fin B) (c : Fin D) :
    Host.scatterAdd (segDims B D N wf) x idx u (ix2 s c)
      = x (ix2 s c) + ∑ n : Fin N, if (idx (ix2 n 0)).toInt = s.val then u (ix2 n c) else 0 := by
  change x (ix2 s c) + ∑ j ∈ Finset.univ.filter (fun j => (segDims B D N wf).resultIdx? j idx = some (ix2 s c)), u j = _
  congr 1
  rw [Finset.sum_filter, sum_idx2]
  refine Finset.sum_congr rfl fun n _ => ?_
  simp only [seg_lands]
  by_cases q : (idx (ix2 n 0)).toInt = s.val
  · simp [q]
  · simp [q]

end

/-- The word of a small number, read signed, is the number; no other word is. -/
theorem toInt_eq_iff (b : BitVec 32) (s : Fin 16) : b.toInt = (s.val : ℤ) ↔ b = BitVec.ofNat 32 s.val := by
  have hs := s.isLt
  constructor
  · intro h
    apply BitVec.eq_of_toInt_eq
    rw [h, StableHlo.Predicate.toInt_ofNat_small _ (by omega)]
  · rintro rfl
    exact StableHlo.Predicate.toInt_ofNat_small _ (by omega)

end Cert.Pool.Host

end
-- ==== Proof.Pool.RefValue.lean ====
/- The plain pooling's result at an index over the extended reals: the same closed form as the kernel's. -/
module

public import proofs.«01_k».proof.Proof.Gen.ReferenceIdeal
public import proofs.«01_k».proof.Proof.Pool.Value
public import proofs.«01_k».proof.Proof.Pool.Host
public import Idealize.ShloMosaic.Lib.Routing.Ops
public import Idealize.ShloMosaic.Lib.Pointwise

@[expose] public section

set_option maxRecDepth 16384

noncomputable section

namespace Cert.Pool.Ref

open Cert.ReferenceIdeal Cert.ReferenceIdeal.Gen
open Idealize.ShloMosaic

variable (x : FVec Ideal S16384x512 .f32) (b : IVec S16384 32) (w1 : FVec Ideal S256x512 .f32) (w2 : FVec Ideal S1x256 .f32)

/-- The scores, as the host computes them. -/
abbrev scores : FVec Ideal S16384x1 .f32 :=
  Host.dotGeneral dot_S16384x256_S256x1_S16384x1_1_0_0_1_n_n none
    (Host.tanh (Host.dotGeneral dot_S16384x512_S512x256_S16384x256_1_0_0_1_n_n none x (transpose S512x256 [1, 0] w1 transposes_S256x512_S512x256_1_0)))
    (transpose S256x1 [1, 0] w2 transposes_S1x256_S256x1_1_0)

/-- The segment numbers as a column, -/
abbrev column : IVec S16384x1 32 := broadcastInDim S16384x1 ![0] bcast_S16384_S16384x1_0 b

/-- and as the rows of a table they pick, a negative one counted from the table's end. -/
abbrev picks : IVec S16384x1 32 :=
  broadcastInDim S16384x1 ![0] bcast_S16384_S16384x1_0
    (select (cmpi .slt b (broadcastInDim S16384 ![] bcast_S_S16384 (constantI S_ 32 0#32)))
      (addi b (broadcastInDim S16384 ![] bcast_S_S16384 (constantI S_ 32 16#32))) b)

/-- A score at its row. -/
theorem scores_at (n : Fin 16384) : scores x w1 w2 (ValueIdx.ix2 n 0) = score x w1 w2 n := by
  unfold score
  pointwise [scores]
  rfl

/-- The column of segment numbers at its row. -/
theorem column_at (n : Fin 16384) : column b (ValueIdx.ix2 n 0) = b (ValueIdx.ix1 n) :=
  Routing.bcCol _ b n

/-- A row of segment `s` picks row `s`. -/
theorem picks_at (n : Fin 16384) (s : Fin 16) (h : inSeg b s n) : picks b (ValueIdx.ix2 n 0) = BitVec.ofNat 32 s.val := by
  refine (Routing.bcCol _ _ n).trans ?_
  show Scalar.select (IntOp.cmpi .slt (b (ValueIdx.ix1 n)) 0#32) _ (b (ValueIdx.ix1 n)) = _
  rw [h, Routing.wrap_of_lt]
  have := s.isLt
  rw [BitVec.toNat_ofNat]
  omega

/-- A table with one row of width one for each segment, read by the picks: a row of segment `s` gets the table's entry `s`. -/
theorem gather_at (tbl : FVec Ideal S16x1 .f32) (n : Fin 16384) (s : Fin 16) (h : inSeg b s n) :
    Host.gather gather_S16x1_S16384x1_S16384x1_1_0_n_n_0_1_11 tbl (picks b) (ValueIdx.ix2 n 0) = tbl (ValueIdx.ix2 s 0) :=
  Routing.gather_row _ rfl rfl rfl rfl rfl tbl _ n 0 s (picks_at b n s h) (by norm_num)

/-- The sum over each segment of a column of numbers. -/
abbrev segSums (e : FVec Ideal S16384x1 .f32) : FVec Ideal S16x1 .f32 :=
  Host.scatterAdd scatter_S16x1_S16384x1_S16384x1_1_0_0_1 (broadcastInDim S16x1 ![] bcast_S_S16x1 (constant S_ .f32 0x00000000#32)) (column b) e

/-- A segment's entry of the sums. -/
theorem segSums_at (e : FVec Ideal S16384x1 .f32) (s : Fin 16) :
    segSums b e (ValueIdx.ix2 s 0) = ∑ n, kept (inSeg b s) (fun n => e (ValueIdx.ix2 n 0)) n := by
  refine (Host.seg_sum scatter_S16x1_S16384x1_S16384x1_1_0_0_1_wf _ _ e s 0).trans ?_
  rw [show (broadcastInDim S16x1 ![] bcast_S_S16x1 (constant (F := Ideal) S_ .f32 0x00000000#32)) (ValueIdx.ix2 s 0) = (0 : EReal) from Ideal.ofBits_zero_f32, zero_add]
  refine Finset.sum_congr rfl fun n _ => ?_
  rw [column_at]
  unfold kept
  exact if_congr (Host.toInt_eq_iff _ s) rfl rfl

/-- The weighted rows summed into their segments: a row's weight is its `e` over its segment's sum of `e` plus its `g`. -/
abbrev pool (e g : FVec Ideal S16384x1 .f32) : FVec Ideal S16x512 .f32 :=
  Host.scatterAdd scatter_S16x512_S16384x1_S16384x512_1_0_0_1 (broadcastInDim S16x512 ![] bcast_S_S16x512 (constant S_ .f32 0x00000000#32)) (column b)
    (mulf x (broadcastInDim S16384x512 ![0, 1] bcast_S16384x1_S16384x512_0_1
      (Host.divf e (addf (Host.gather gather_S16x1_S16384x1_S16384x1_1_0_n_n_0_1_11 (segSums b e) (picks b)) g))))

/-- A column spread over the rows and multiplied in, at an entry. -/
theorem scaled_at (w : FVec Ideal S16384x1 .f32) (n : Fin 16384) (d : Fin 512) :
    mulf x (broadcastInDim S16384x512 ![0, 1] bcast_S16384x1_S16384x512_0_1 w) (ValueIdx.ix2 n d)
      = x (ValueIdx.ix2 n d) * w (ValueIdx.ix2 n 0) := by
  pointwise []
  rfl

/-- A quotient by a sum, at an entry. -/
theorem share_at (e t g : FVec Ideal S16384x1 .f32) (n : Fin 16384) :
    Host.divf e (addf t g) (ValueIdx.ix2 n 0) = Ideal.div (e (ValueIdx.ix2 n 0)) (t (ValueIdx.ix2 n 0) + g (ValueIdx.ix2 n 0)) := rfl

/-- An entry of the pooling: the rows of its segment, each times its share. -/
theorem pool_at (e g : FVec Ideal S16384x1 .f32) (s : Fin 16) (d : Fin 512) :
    pool x b e g (ValueIdx.ix2 s d)
      = ∑ n, if inSeg b s n then x (ValueIdx.ix2 n d) * Ideal.div (e (ValueIdx.ix2 n 0))
          ((∑ k, kept (inSeg b s) (fun k => e (ValueIdx.ix2 k 0)) k) + g (ValueIdx.ix2 n 0)) else 0 := by
  refine (Host.seg_sum scatter_S16x512_S16384x1_S16384x512_1_0_0_1_wf _ _ _ s d).trans ?_
  rw [show (broadcastInDim S16x512 ![] bcast_S_S16x512 (constant (F := Ideal) S_ .f32 0x00000000#32)) (ValueIdx.ix2 s d) = (0 : EReal) from Ideal.ofBits_zero_f32, zero_add]
  refine Finset.sum_congr rfl fun n _ => ?_
  rw [column_at]
  by_cases h : inSeg b s n
  · rw [if_pos h, if_pos ((Host.toInt_eq_iff _ s).mpr h), ← segSums_at, ← gather_at b (segSums b e) n s h]
    exact (scaled_at x _ n d).trans (congrArg (x (ValueIdx.ix2 n d) * ·) (share_at e _ g n))
  · rw [if_neg h, if_neg fun q => h ((Host.toInt_eq_iff _ s).mp q)]

/-- The plain reference's result is the closed form. -/
theorem pool_eq (s : Fin 16) (d : Fin 512) :
    pool x b (Host.exp (scores x w1 w2)) (broadcastInDim S16384x1 ![] bcast_S_S16384x1 (constant S_ .f32 0x24E69595#32)) (ValueIdx.ix2 s d)
      = pooled x b w1 w2 s d := by
  rw [pool_at]
  have he (n : Fin 16384) : Host.exp (scores x w1 w2) (ValueIdx.ix2 n 0) = weight x w1 w2 n := congrArg Ideal.exp (scores_at x w1 w2 n)
  simp only [he]
  unfold pooled
  rw [weighted _ _ _ (total_pos _ _ (fun n => exp_nonneg _) guard_pos)]
  rfl

end Cert.Pool.Ref

end
-- ==== Proof.Pool.Shift.lean ====
/- The mathematics of the shift over the extended reals: where the scores are real, taking a real number from all of them and
   scaling the number added to the sum alike leaves every share as it was. -/
module

public import proofs.«01_k».proof.Proof.Pool.Weighted

@[expose] public section

noncomputable section

namespace Cert.Pool

open Idealize.ShloMosaic

/-- An extended real that is a real number. -/
def IsReal (a : EReal) : Prop := ∃ r : ℝ, a = r

/-- One that is neither infinity is. -/
theorem isReal_of {a : EReal} (hb : ⊥ < a) (ht : a < ⊤) : IsReal a :=
  ⟨a.toReal, (EReal.coe_toReal ht.ne hb.ne').symm⟩

/-- A real number is above minus infinity -/
theorem IsReal.bot_lt {a : EReal} (h : IsReal a) : ⊥ < a := by obtain ⟨r, rfl⟩ := h; exact EReal.bot_lt_coe r
/-- and below plus infinity. -/
theorem IsReal.lt_top {a : EReal} (h : IsReal a) : a < ⊤ := by obtain ⟨r, rfl⟩ := h; exact EReal.coe_lt_top r

/-- A product of real numbers is one, -/
theorem IsReal.mul {a b : EReal} (ha : IsReal a) (hb : IsReal b) : IsReal (a * b) := by
  obtain ⟨r, rfl⟩ := ha
  obtain ⟨q, rfl⟩ := hb
  exact ⟨r * q, (EReal.coe_mul r q).symm⟩

/-- and a sum. -/
theorem isReal_sum {ι : Type} (s : Finset ι) {f : ι → EReal} (h : ∀ i, IsReal (f i)) : IsReal (∑ i ∈ s, f i) := by
  classical
  induction s using Finset.induction_on with
  | empty => exact ⟨0, by simp⟩
  | insert i s hi ih =>
    obtain ⟨r, hr⟩ := h i
    obtain ⟨q, hq⟩ := ih
    exact ⟨r + q, by rw [Finset.sum_insert hi, hr, hq, EReal.coe_add]⟩

/-- A hyperbolic tangent is a real number. -/
theorem isReal_tanh (a : EReal) : IsReal (Ideal.tanh a) := by
  induction a with
  | bot => exact ⟨-1, rfl⟩
  | top => exact ⟨1, rfl⟩
  | coe r => exact ⟨Real.tanh r, rfl⟩

/-- The exponential of a difference of real numbers. -/
theorem exp_sub {a μ : EReal} (ha : IsReal a) (hμ : IsReal μ) : Ideal.exp (a - μ) = Ideal.exp a * Ideal.exp (-μ) := by
  obtain ⟨r, rfl⟩ := ha
  obtain ⟨q, rfl⟩ := hμ
  rw [← EReal.coe_sub, ← EReal.coe_neg]
  show ((Real.exp (r - q) : ℝ) : EReal) = (Real.exp r : ℝ) * (Real.exp (-q) : ℝ)
  rw [← EReal.coe_mul, ← Real.exp_add, sub_eq_add_neg]

/-- A factor that is a positive real number cancels from a quotient by anything but zero. -/
theorem div_cancel (a : EReal) {T : EReal} (hT : 0 < T) {c : ℝ} (hc : 0 < c) : Ideal.div (a * c) (T * c) = Ideal.div a T := by
  have hTc : 0 < T * (c : EReal) := EReal.mul_pos hT (EReal.coe_pos.mpr hc)
  rw [div_eq hTc.ne', div_eq hT.ne', EReal.mul_inv, mul_assoc, mul_left_comm (c : EReal), ← EReal.coe_inv, ← EReal.coe_mul,
    mul_inv_cancel₀ hc.ne', EReal.coe_one, mul_one]

/-- A share is what it is without the shift. -/
theorem shifted_share {N : ℕ} (p : Fin N → Prop) [DecidablePred p] (a : Fin N → EReal) (ha : ∀ n, IsReal (a n)) {μ ε : EReal}
    (hμ : IsReal μ) (hε : 0 < ε) (n : Fin N) :
    Ideal.div (Ideal.exp (a n - μ)) ((∑ k, kept p (fun k => Ideal.exp (a k - μ)) k) + ε * Ideal.exp (-μ))
      = Ideal.div (Ideal.exp (a n)) ((∑ k, kept p (fun k => Ideal.exp (a k)) k) + ε) := by
  obtain ⟨c, hc, e⟩ : ∃ c : ℝ, 0 < c ∧ Ideal.exp (-μ) = c := by
    obtain ⟨q, rfl⟩ := hμ
    exact ⟨Real.exp (-q), Real.exp_pos _, by rw [← EReal.coe_neg]; rfl⟩
  have h0 : (0 : EReal) ≤ c := EReal.coe_nonneg.mpr hc.le
  have hs : (∑ k, kept p (fun k => Ideal.exp (a k - μ)) k) = (∑ k, kept p (fun k => Ideal.exp (a k)) k) * c := by
    rw [sum_mul _ _ h0 (EReal.coe_ne_top c)]
    refine Finset.sum_congr rfl fun k _ => ?_
    unfold kept
    split
    · show Ideal.exp (a k - μ) = Ideal.exp (a k) * c
      rw [exp_sub (ha k) hμ, e]
    · rw [zero_mul]
  rw [hs, e, ← EReal.right_distrib_of_nonneg_of_ne_top h0 (EReal.coe_ne_top c), exp_sub (ha n) hμ, e]
  exact div_cancel _ (total_pos p _ (fun k => exp_nonneg _) hε) hc

/-- The largest of numbers that are each real or `⊥`, one of them real, is real. -/
theorem isReal_max {ι : Type} (s : Finset ι) (f : ι → EReal) (hf : ∀ i ∈ s, f i < ⊤) {i : ι} (hi : i ∈ s) (h : ⊥ < f i) :
    IsReal (s.fold max ⊥ f) :=
  isReal_of ((Finset.lt_fold_max ..).mpr (Or.inr ⟨i, hi, h⟩)) ((Finset.fold_max_lt ..).mpr ⟨bot_lt_top, hf⟩)

end Cert.Pool

end
-- ==== Proof.Pool.ShiftValue.lean ====
/- The shifted pooling's result at an index over the extended reals, where the second layer's weights are real: the same
   closed form as the kernel's. -/
module

public import proofs.«01_k».proof.Proof.Gen.ShiftedIdeal
public import proofs.«01_k».proof.Proof.Pool.RefValue
public import proofs.«01_k».proof.Proof.Pool.Shift
public import Idealize.ShloMosaic.PureOps.Reduce

@[expose] public section

set_option maxRecDepth 16384

noncomputable section

namespace Cert.Pool.Ref

open Cert.ShiftedIdeal Cert.ShiftedIdeal.Gen
open Idealize.ShloMosaic

variable (x : FVec Ideal S16384x512 .f32) (b : IVec S16384 32) (w1 : FVec Ideal S256x512 .f32) (w2 : FVec Ideal S1x256 .f32)
variable (a : FVec Ideal S16384x1 .f32)

/-- The scores in a row for each segment, `-∞` where a row is not of the segment. -/
abbrev spread : FVec Ideal S16384x16 .f32 :=
  select
    (cmpi .eq (broadcastInDim S16384x16 ![0, 1] bcast_S16384x1_S16384x16_0_1 (broadcastInDim S16384x1 ![0] bcast_S16384_S16384x1_0 b))
      (broadcastInDim S16384x16 ![0, 1] bcast_S1x16_S16384x16_0_1 (broadcastInDim S1x16 ![1] bcast_S16_S1x16_1 (iotaInDim S16 32 0))))
    (broadcastInDim S16384x16 ![0, 1] bcast_S16384x1_S16384x16_0_1 a)
    (broadcastInDim S16384x16 ![] bcast_S_S16384x16 (constant S_ .f32 0xFF800000#32))

/-- Each segment's largest score, as a table with one row for each. -/
abbrev tops : FVec Ideal S16x1 .f32 :=
  broadcastInDim S16x1 ![0] bcast_S16_S16x1_0
    (Host.reduce FloatOps.maximumf (spread b a) (constant S_ .f32 0xFF800000#32) reducesTo_S16384x16_S16_d0 h_S_)

/-- Each row's largest score of its segment. -/
abbrev topOf : FVec Ideal S16384x1 .f32 := Host.gather gather_S16x1_S16384x1_S16384x1_1_0_n_n_0_1_11 (tops b a) (picks b)

/-- The word of minus infinity. -/
theorem bottom_eq : Ideal.ofBits .f32 0xFF800000#32 = ⊥ := by simp [Ideal.ofBits, Ideal.ieee]
/-- The word of plus infinity. -/
theorem top_eq : Ideal.ofBits .f32 0x7F800000#32 = ⊤ := by simp [Ideal.ofBits, Ideal.ieee]

/-- The spread scores at an entry. -/
theorem spread_at (n : Fin 16384) (s : Fin 16) :
    spread b a (ValueIdx.ix2 n s) = if inSeg b s n then a (ValueIdx.ix2 n 0) else ⊥ := by
  rw [← bottom_eq, ← select_eq_ite]
  pointwise [spread]
  rfl

/-- The table of largest scores at a segment, as a fold over the rows. -/
theorem tops_at (s : Fin 16) :
    tops b a (ValueIdx.ix2 s 0) = (Finset.univ : Finset (Fin 16384)).fold max ⊥ fun n => spread b a (ValueIdx.ix2 n s) := by
  refine (Routing.bcCol _ _ s).trans ?_
  refine (Host.reduce_eq_fold_single (FloatOps.maximumf (F := Ideal) (φ := .f32)) (spread b a) _ reducesTo_S16384x16_S16_d0 (by decide) h_S_ _).trans ?_
  rw [show (constant (F := Ideal) S_ .f32 0xFF800000#32) (Shape.Idx.first h_S_) = ⊥ from bottom_eq]
  refine Finset.fold_congr fun n _ => ?_
  refine congrArg (spread b a) (funext fun k => Fin.ext ?_)
  match k with
  | ⟨0, _⟩ => rfl
  | ⟨1, _⟩ => rfl

/-- Where the scores are real, so is the largest of a segment with a row in it. -/
theorem tops_real (ha : ∀ n, IsReal (a (ValueIdx.ix2 n 0))) (n : Fin 16384) (s : Fin 16) (h : inSeg b s n) :
    IsReal (tops b a (ValueIdx.ix2 s 0)) := by
  rw [tops_at]
  refine isReal_max _ _ (fun k _ => ?_) (Finset.mem_univ n) ?_
  · rw [spread_at]
    split
    exacts [(ha k).lt_top, bot_lt_top]
  · rw [spread_at, if_pos h]
    exact (ha n).bot_lt

/-- A row of segment `s` is shifted by the largest score of segment `s`. -/
theorem topOf_at (n : Fin 16384) (s : Fin 16) (h : inSeg b s n) : topOf b a (ValueIdx.ix2 n 0) = tops b a (ValueIdx.ix2 s 0) :=
  gather_at b (tops b a) n s h

/-- Real weights of the second layer make real scores: a hyperbolic tangent is real. -/
theorem score_real (hw : ∀ h, IsReal (w2 (ValueIdx.ix2 0 h))) (n : Fin 16384) : IsReal (score x w1 w2 n) :=
  isReal_sum _ fun h => (isReal_tanh _).mul (hw h)

/-- The exponentials of the shifted scores, -/
abbrev shiftedExp : FVec Ideal S16384x1 .f32 := Host.exp (subf a (topOf b a))

/-- and the number added to their sum. -/
abbrev shiftedGuard : FVec Ideal S16384x1 .f32 :=
  mulf (broadcastInDim S16384x1 ![] bcast_S_S16384x1 (constant S_ .f32 0x24E69595#32)) (Host.exp (Host.negf (topOf b a)))

/-- The first at a row of segment `s`, -/
theorem shiftedExp_at (n : Fin 16384) (s : Fin 16) (h : inSeg b s n) :
    shiftedExp b a (ValueIdx.ix2 n 0) = Ideal.exp (a (ValueIdx.ix2 n 0) - tops b a (ValueIdx.ix2 s 0)) :=
  congrArg (fun t => Ideal.exp (a (ValueIdx.ix2 n 0) - t)) (topOf_at b a n s h)

/-- A column scaled by the exponential of what is taken off, at an entry. -/
theorem guard_at (t : FVec Ideal S16384x1 .f32) (n : Fin 16384) :
    mulf (broadcastInDim S16384x1 ![] bcast_S_S16384x1 (constant S_ .f32 0x24E69595#32)) (Host.exp (Host.negf t)) (ValueIdx.ix2 n 0)
      = Ideal.ofBits .f32 0x24E69595#32 * Ideal.exp (-t (ValueIdx.ix2 n 0)) := rfl

/-- and the second. -/
theorem shiftedGuard_at (n : Fin 16384) (s : Fin 16) (h : inSeg b s n) :
    shiftedGuard b a (ValueIdx.ix2 n 0) = Ideal.ofBits .f32 0x24E69595#32 * Ideal.exp (-tops b a (ValueIdx.ix2 s 0)) :=
  (guard_at (topOf b a) n).trans (by rw [topOf_at b a n s h])

/-- The shifted reference's result is the closed form. -/
theorem shifted_eq (hw : ∀ h, IsReal (w2 (ValueIdx.ix2 0 h))) (s : Fin 16) (d : Fin 512) :
    pool x b (shiftedExp b (scores x w1 w2)) (shiftedGuard b (scores x w1 w2)) (ValueIdx.ix2 s d) = pooled x b w1 w2 s d := by
  have hr (n : Fin 16384) : IsReal (scores x w1 w2 (ValueIdx.ix2 n 0)) := by rw [scores_at]; exact score_real x w1 w2 hw n
  rw [pool_at]
  unfold pooled
  rw [weighted _ _ _ (total_pos _ _ (fun n => exp_nonneg _) guard_pos)]
  refine Finset.sum_congr rfl fun n _ => ?_
  by_cases h : inSeg b s n
  · rw [if_pos h, if_pos h, shiftedExp_at b _ n s h, shiftedGuard_at b _ n s h]
    have hk : (∑ k, kept (inSeg b s) (fun k => shiftedExp b (scores x w1 w2) (ValueIdx.ix2 k 0)) k)
        = ∑ k, kept (inSeg b s) (fun k => Ideal.exp (scores x w1 w2 (ValueIdx.ix2 k 0) - tops b (scores x w1 w2) (ValueIdx.ix2 s 0))) k := by
      refine Finset.sum_congr rfl fun k _ => ?_
      unfold kept
      split
      · next q => exact shiftedExp_at b _ k s q
      · rfl
    rw [hk, shifted_share (inSeg b s) (fun k => scores x w1 w2 (ValueIdx.ix2 k 0)) hr (tops_real b _ hr n s h) guard_pos n]
    simp only [scores_at]
  · rw [if_neg h, if_neg h]

end Cert.Pool.Ref

end
-- ==== Proof.lean ====
/- The proof of the certificate: each program's frame, and that the kernel's result is the pooling's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ShiftedIdeal
public import proofs.«01_k».proof.Proof.Gen.ShiftedIdeal.Run
public import proofs.«01_k».proof.Proof.Pool.Frame
public import proofs.«01_k».proof.Proof.Pool.Same
public import proofs.«01_k».proof.Proof.Pool.RefValue
public import proofs.«01_k».proof.Proof.Pool.ShiftValue
public import Idealize.ShloMosaic.Adequacy
public import Idealize.ShloMosaic.Init

@[expose] public section

noncomputable section

namespace Cert.Proof

open Idealize.ShloMosaic Idealize.SL.Sem

/-- The ideal kernel's frame. -/
theorem frame_ideal : Cert.quiescent_KernelIdeal (hKernelIdeal := Cert.KernelIdeal.Gen.facts) := fun m ρ _ => Cert.Pool.frame_kernel m ρ

/-- The reference's frame: its run, read at the arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result is the reference's, entry by entry, whatever the arguments. -/
theorem same_result : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Pool.final m c, Cert.Pool.run_value m ρ, (θ_run Cert.ReferenceIdeal.defs _ _).mono
    (fun _ h c => ⟨(h c).1.trans ?_, (h c).2⟩) (Cert.ReferenceIdeal.Value.run (F := Ideal) m' ρ')⟩
  rw [(hagree c).1, (hagree c).2.1, (hagree c).2.2.1, (hagree c).2.2.2]
  funext i
  obtain ⟨s, d, rfl⟩ : ∃ s d, i = ValueIdx.ix2 s d := ⟨i 0, i 1, ValueIdx.eq_ix2 i⟩
  exact (Cert.Pool.Ref.pool_eq _ _ _ _ s d).trans (Cert.Pool.final_at m c s d).symm

/-- The shifted reference's frame: its run, read at the arguments; it declares no semaphore. -/
theorem frame_shifted : Cert.quiescent_ShiftedIdeal (hShiftedIdeal := Cert.ShiftedIdeal.Gen.facts) := fun m ρ _ =>
  (θ_run Cert.ShiftedIdeal.defs _ _).mono (fun r h => ⟨fun c => (h c).2, sem_eq_zero_of_no_sems (by decide) r.2⟩)
    (Cert.ShiftedIdeal.Value.run (F := Ideal) m ρ)

/-- What the precondition's text cites. -/
theorem pre_facts : Cert.Pre_finite_w2.Facts := ⟨by decide⟩

/-- Where the precondition's comparisons hold of the second layer's weights, each is a real number. -/
theorem real_of_pre (x : FVec Ideal Cert.Pre_finite_w2.S16384x512 .f32) (b : IVec Cert.Pre_finite_w2.S16384 32)
    (w1 : FVec Ideal Cert.Pre_finite_w2.S256x512 .f32) (w2 : FVec Ideal Cert.Pre_finite_w2.S1x256 .f32)
    (h : @Cert.Pre_finite_w2.fn pre_facts Ideal _ x b w1 w2 = fun _ => 1#1) (k : Fin 256) : Cert.Pool.IsReal (w2 (ValueIdx.ix2 0 k)) := by
  have e : BitVec.ofBool (decide (w2 (ValueIdx.ix2 0 k) < Ideal.ofBits .f32 0x7F800000#32))
      &&& BitVec.ofBool (decide (Ideal.ofBits .f32 0xFF800000#32 < w2 (ValueIdx.ix2 0 k))) = 1#1 := congrFun h (ValueIdx.ix2 0 k)
  rw [Cert.Pool.Ref.bottom_eq, Cert.Pool.Ref.top_eq] at e
  by_cases ht : w2 (ValueIdx.ix2 0 k) < ⊤
  · by_cases hb : ⊥ < w2 (ValueIdx.ix2 0 k)
    · exact Cert.Pool.isReal_of hb ht
    · rw [decide_eq_false hb] at e; simp at e
  · rw [decide_eq_false ht] at e; simp at e

/-- Over the extended reals the kernel's result is the shifted reference's, entry by entry, where the second layer's weights are
    real numbers. -/
theorem same_shifted : Cert.algebraic_KernelIdeal_ShiftedIdeal_pre_finite_w2 (hKernelIdeal := Cert.KernelIdeal.Gen.facts)
    (hShiftedIdeal := Cert.ShiftedIdeal.Gen.facts) (hPre_finite_w2 := pre_facts) := by
  intro m ρ m' ρ' hpre hagree
  refine ⟨fun c => Cert.Pool.final m c, Cert.Pool.run_value m ρ, (θ_run Cert.ShiftedIdeal.defs _ _).mono
    (fun _ h c => ⟨(h c).1.trans ?_, (h c).2⟩) (Cert.ShiftedIdeal.Value.run (F := Ideal) m' ρ')⟩
  unfold Cert.ShiftedIdeal.Value.res_main_v50
  rw [(hagree c).1, (hagree c).2.1, (hagree c).2.2.1, (hagree c).2.2.2]
  funext i
  obtain ⟨s, d, rfl⟩ : ∃ s d, i = ValueIdx.ix2 s d := ⟨i 0, i 1, ValueIdx.eq_ix2 i⟩
  exact (Cert.Pool.Ref.shifted_eq _ _ _ _ (real_of_pre _ _ _ _ (hpre c)) s d).trans (Cert.Pool.final_at m c s d).symm

/-- The certificate's claims. -/
theorem claim : Cert.Claim := ⟨Cert.Kernel.Gen.facts, Cert.KernelIdeal.Gen.facts, Cert.ReferenceIdeal.Gen.facts,
  Cert.ShiftedIdeal.Gen.facts, pre_facts, Cert.Pool.frame_compiled, frame_ideal, fun m ρ _ => frame_ideal m ρ trivial, frame_reference,
  frame_shifted, fun m ρ _ => frame_shifted m ρ trivial, trivial, same_result, same_shifted⟩

end Cert.Proof

end
